-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_live_pages_in_pool_KernelIdeal [hPre_live_pages_in_pool_KernelIdeal : Cert.Pre_live_pages_in_pool_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_live_pages_in_pool_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_live_pages_in_pool_ReferenceIdeal [hPre_live_pages_in_pool_ReferenceIdeal : Cert.Pre_live_pages_in_pool_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_live_pages_in_pool_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_live_pages_in_pool_KernelIdeal [hKernelIdeal : Cert.KernelIdeal.Facts] [hPre_live_pages_in_pool_KernelIdeal : Cert.Pre_live_pages_in_pool_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_live_pages_in_pool_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_live_pages_in_pool_ReferenceIdeal [hReferenceIdeal : Cert.ReferenceIdeal.Facts] [hPre_live_pages_in_pool_ReferenceIdeal : Cert.Pre_live_pages_in_pool_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_live_pages_in_pool_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_live_pages_in_pool_KernelIdeal [hKernelIdeal : Cert.KernelIdeal.Facts] [hReferenceIdeal : Cert.ReferenceIdeal.Facts] [hPre_live_pages_in_pool_KernelIdeal : Cert.Pre_live_pages_in_pool_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_live_pages_in_pool_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_live_pages_in_pool_KernelIdeal : Cert.Pre_live_pages_in_pool_KernelIdeal.Facts) (hPre_live_pages_in_pool_ReferenceIdeal : Cert.Pre_live_pages_in_pool_ReferenceIdeal.Facts),
    quiescent_Kernel (hKernel := hKernel)
    ∧ quiescent_KernelIdeal (hKernelIdeal := hKernelIdeal)
    ∧ quiescent_KernelIdeal_pre_live_pages_in_pool_KernelIdeal (hKernelIdeal := hKernelIdeal) (hPre_live_pages_in_pool_KernelIdeal := hPre_live_pages_in_pool_KernelIdeal)
    ∧ quiescent_ReferenceIdeal (hReferenceIdeal := hReferenceIdeal)
    ∧ quiescent_ReferenceIdeal_pre_live_pages_in_pool_ReferenceIdeal (hReferenceIdeal := hReferenceIdeal) (hPre_live_pages_in_pool_ReferenceIdeal := hPre_live_pages_in_pool_ReferenceIdeal)
    ∧ preserves_Kernel_KernelIdeal
    ∧ algebraic_KernelIdeal_ReferenceIdeal_pre_live_pages_in_pool_KernelIdeal (hKernelIdeal := hKernelIdeal) (hReferenceIdeal := hReferenceIdeal) (hPre_live_pages_in_pool_KernelIdeal := hPre_live_pages_in_pool_KernelIdeal)
-- ==== Pre_live_pages_in_pool_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_

variable [Facts]

def fn_part1 {F : FTy → Type} [FloatOps F] (main_arg0 : FVec F S8x1x8x64 .bf16) (main_arg1 : FVec F S64x16x8x64 .bf16) (main_v17 : IVec S_ 1) (main_cst : FVec F S_ .bf16) : IVec S_ 1 :=
  let main_v18 : FVec F S8x1x8x64 .bf16 := broadcastInDim S8x1x8x64 ![] bcast_S_S8x1x8x64 main_cst
  let main_v19 : IVec S8x1x8x64 1 := cmpf .ogt main_arg0 main_v18
  let main_cst_4 : FVec F S_ .bf16 := constant S_ .bf16 0x7F80#16
  let main_v20 : FVec F S8x1x8x64 .bf16 := broadcastInDim S8x1x8x64 ![] bcast_S_S8x1x8x64 main_cst_4
  let main_v21 : IVec S8x1x8x64 1 := cmpf .olt main_arg0 main_v20
  let main_v22 : IVec S8x1x8x64 1 := andi main_v19 main_v21
  let main_c_5 : IVec S_ 1 := constantI S_ 1 1#1
  let main_v23 : IVec S_ 1 := (fun x v => Host.reduce IntOp.andi x v reducesTo_S8x1x8x64_S_d0_1_2_3 h_S_) main_v22 main_c_5
  let main_v24 : IVec S_ 1 := andi main_v17 main_v23
  let main_cst_6 : FVec F S_ .bf16 := constant S_ .bf16 0xFF80#16
  let main_v25 : FVec F S64x16x8x64 .bf16 := broadcastInDim S64x16x8x64 ![] bcast_S_S64x16x8x64 main_cst_6
  let main_v26 : IVec S64x16x8x64 1 := cmpf .ogt main_arg1 main_v25
  let main_cst_7 : FVec F S_ .bf16 := constant S_ .bf16 0x7F80#16
  let main_v27 : FVec F S64x16x8x64 .bf16 := broadcastInDim S64x16x8x64 ![] bcast_S_S64x16x8x64 main_cst_7
  let main_v28 : IVec S64x16x8x64 1 := cmpf .olt main_arg1 main_v27
  let main_v29 : IVec S64x16x8x64 1 := andi main_v26 main_v28
  let main_c_8 : IVec S_ 1 := constantI S_ 1 1#1
  let main_v30 : IVec S_ 1 := (fun x v => Host.reduce IntOp.andi x v reducesTo_S64x16x8x64_S_d0_1_2_3 h_S_) main_v29 main_c_8
  let main_v31 : IVec S_ 1 := andi main_v24 main_v30
  main_v31

def fn {F : FTy → Type} [FloatOps F] (main_arg0 : FVec F S8x1x8x64 .bf16) (main_arg1 : FVec F S64x16x8x64 .bf16) (main_arg2 : FVec F S64x16x8x64 .bf16) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 0#32
  let main_v6 : IVec S8x64 32 := broadcastInDim S8x64 ![] bcast_S_S8x64 main_c
  let main_v7 : IVec S8x64 1 := cmpi .sge main_arg3 main_v6
  let main_c_0 : IVec S_ 32 := constantI S_ 32 128#32
  let main_v8 : IVec S8x64 32 := broadcastInDim S8x64 ![] bcast_S_S8x64 main_c_0
  let main_v9 : IVec S8x64 1 := cmpi .slt main_arg3 main_v8
  let main_v10 : IVec S8x64 1 := andi main_v7 main_v9
  let main_v11 : IVec S8x64 1 := noti main_v5
  let main_v12 : IVec S8x64 1 := ori main_v10 main_v11
  let main_c_1 : IVec S_ 1 := constantI S_ 1 1#1
  let main_v13 : IVec S_ 1 := (fun x v => Host.reduce IntOp.andi x v reducesTo_S8x64_S_d0_1 h_S_) main_v12 main_c_1
  let main_c_2 : IVec S_ 32 := constantI S_ 32 1#32
  let main_v14 : IVec S8 32 := broadcastInDim S8 ![] bcast_S_S8 main_c_2
  let main_v15 : IVec S8 1 := cmpi .sge main_arg4 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v13 main_v16
  let main_cst : FVec F S_ .bf16 := constant S_ .bf16 0xFF80#16
  fn_part1 (F := F) main_arg0 main_arg1 main_v17 main_cst
-- ==== Pre_live_pages_in_pool_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S128x16x8x64 : S_.BroadcastsInDim S128x16x8x64 (![] : Fin 0 → Fin S128x16x8x64.rank)
  reducesTo_S128x16x8x64_S_d0_1_2_3 : S128x16x8x64.ReducesTo [0, 1, 2, 3] S_

variable [Facts]

def fn_part1 {F : FTy → Type} [FloatOps F] (main_arg0 : FVec F S8x1x8x64 .bf16) (main_arg1 : FVec F S128x16x8x64 .bf16) (main_v17 : IVec S_ 1) (main_cst : FVec F S_ .bf16) : IVec S_ 1 :=
  let main_v18 : FVec F S8x1x8x64 .bf16 := broadcastInDim S8x1x8x64 ![] bcast_S_S8x1x8x64 main_cst
  let main_v19 : IVec S8x1x8x64 1 := cmpf .ogt main_arg0 main_v18
  let main_cst_4 : FVec F S_ .bf16 := constant S_ .bf16 0x7F80#16
  let main_v20 : FVec F S8x1x8x64 .bf16 := broadcastInDim S8x1x8x64 ![] bcast_S_S8x1x8x64 main_cst_4
  let main_v21 : IVec S8x1x8x64 1 := cmpf .olt main_arg0 main_v20
  let main_v22 : IVec S8x1x8x64 1 := andi main_v19 main_v21
  let main_c_5 : IVec S_ 1 := constantI S_ 1 1#1
  let main_v23 : IVec S_ 1 := (fun x v => Host.reduce IntOp.andi x v reducesTo_S8x1x8x64_S_d0_1_2_3 h_S_) main_v22 main_c_5
  let main_v24 : IVec S_ 1 := andi main_v17 main_v23
  let main_cst_6 : FVec F S_ .bf16 := constant S_ .bf16 0xFF80#16
  let main_v25 : FVec F S128x16x8x64 .bf16 := broadcastInDim S128x16x8x64 ![] bcast_S_S128x16x8x64 main_cst_6
  let main_v26 : IVec S128x16x8x64 1 := cmpf .ogt main_arg1 main_v25
  let main_cst_7 : FVec F S_ .bf16 := constant S_ .bf16 0x7F80#16
  let main_v27 : FVec F S128x16x8x64 .bf16 := broadcastInDim S128x16x8x64 ![] bcast_S_S128x16x8x64 main_cst_7
  let main_v28 : IVec S128x16x8x64 1 := cmpf .olt main_arg1 main_v27
  let main_v29 : IVec S128x16x8x64 1 := andi main_v26 main_v28
  let main_c_8 : IVec S_ 1 := constantI S_ 1 1#1
  let main_v30 : IVec S_ 1 := (fun x v => Host.reduce IntOp.andi x v reducesTo_S128x16x8x64_S_d0_1_2_3 h_S_) main_v29 main_c_8
  let main_v31 : IVec S_ 1 := andi main_v24 main_v30
  main_v31

def fn {F : FTy → Type} [FloatOps F] (main_arg0 : FVec F S8x1x8x64 .bf16) (main_arg1 : FVec F S128x16x8x64 .bf16) (main_arg2 : FVec F S128x16x8x64 .bf16) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 0#32
  let main_v6 : IVec S8x64 32 := broadcastInDim S8x64 ![] bcast_S_S8x64 main_c
  let main_v7 : IVec S8x64 1 := cmpi .sge main_arg3 main_v6
  let main_c_0 : IVec S_ 32 := constantI S_ 32 128#32
  let main_v8 : IVec S8x64 32 := broadcastInDim S8x64 ![] bcast_S_S8x64 main_c_0
  let main_v9 : IVec S8x64 1 := cmpi .slt main_arg3 main_v8
  let main_v10 : IVec S8x64 1 := andi main_v7 main_v9
  let main_v11 : IVec S8x64 1 := noti main_v5
  let main_v12 : IVec S8x64 1 := ori main_v10 main_v11
  let main_c_1 : IVec S_ 1 := constantI S_ 1 1#1
  let main_v13 : IVec S_ 1 := (fun x v => Host.reduce IntOp.andi x v reducesTo_S8x64_S_d0_1 h_S_) main_v12 main_c_1
  let main_c_2 : IVec S_ 32 := constantI S_ 32 1#32
  let main_v14 : IVec S8 32 := broadcastInDim S8 ![] bcast_S_S8 main_c_2
  let main_v15 : IVec S8 1 := cmpi .sge main_arg4 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v13 main_v16
  let main_cst : FVec F S_ .bf16 := constant S_ .bf16 0xFF80#16
  fn_part1 (F := F) main_arg0 main_arg1 main_v17 main_cst
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S2x8x8x64 : Shape := ⟨4, ![2, 8, 8, 64]⟩
abbrev S2x2x8x8 : Shape := ⟨4, ![2, 2, 8, 8]⟩
abbrev S_ : Shape := ⟨0, ![]⟩
abbrev S8x64x64 : Shape := ⟨3, ![8, 64, 64]⟩
abbrev S8x1x1 : Shape := ⟨3, ![8, 1, 1]⟩
abbrev S8x64x1 : Shape := ⟨3, ![8, 64, 1]⟩
abbrev S8x64x16 : Shape := ⟨3, ![8, 64, 16]⟩
abbrev S8x1024 : Shape := ⟨2, ![8, 1024]⟩
abbrev S1024x8x64 : Shape := ⟨3, ![1024, 8, 64]⟩
abbrev S8x8x64 : Shape := ⟨3, ![8, 8, 64]⟩
abbrev S8x1024x8 : Shape := ⟨3, ![8, 1024, 8]⟩
abbrev S8x8x1024 : Shape := ⟨3, ![8, 8, 1024]⟩
abbrev S8x1x1024 : Shape := ⟨3, ![8, 1, 1024]⟩
abbrev S8x8 : Shape := ⟨2, ![8, 8]⟩
abbrev S8x8x1 : Shape := ⟨3, ![8, 8, 1]⟩
abbrev S1x1x8x8 : Shape := ⟨4, ![1, 1, 8, 8]⟩
abbrev S1x2x8x8 : Shape := ⟨4, ![1, 2, 8, 8]⟩
abbrev S2x8x8 : Shape := ⟨3, ![2, 8, 8]⟩
abbrev S8x8x1x1024 : Shape := ⟨4, ![8, 8, 1, 1024]⟩
abbrev S1x8x8x1 : Shape := ⟨4, ![1, 8, 8, 1]⟩
abbrev S8x8x8x1024 : Shape := ⟨4, ![8, 8, 8, 1024]⟩
abbrev S8x1024x64 : Shape := ⟨3, ![8, 1024, 64]⟩
abbrev S64x8192 : Shape := ⟨2, ![64, 8192]⟩
abbrev S8192x64 : Shape := ⟨2, ![8192, 64]⟩
abbrev S64x64 : Shape := ⟨2, ![64, 64]⟩
abbrev S1x8x8x64 : Shape := ⟨4, ![1, 8, 8, 64]⟩

abbrev nBuf : Space → Nat
  | .hbm => 6
  | .vmem => 8
  | .smem => 0
  | _ => 0

abbrev bufTy : (tb : Table) → Fin (tcTables nBuf tb) → BufTy
  | .hbm, ⟨0, _⟩ => ⟨S8x1x8x64, .bf16⟩
  | .hbm, ⟨1, _⟩ => ⟨S64x16x8x64, .bf16⟩
  | .hbm, ⟨2, _⟩ => ⟨S64x16x8x64, .bf16⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .bf16⟩
  | .local _ .vmem, ⟨1, _⟩ => ⟨S64x16x8x64, .bf16⟩
  | .local _ .vmem, ⟨2, _⟩ => ⟨S64x16x8x64, .bf16⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S2x8x8x64, .f32⟩
  | .local _ .vmem, ⟨7, _⟩ => ⟨S2x2x8x8, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v75 : BitVec 32 := Scalar.muli v2 c8_i32_37
  let v76 : BitVec 32 := Scalar.addi c0_i32_38 v75
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v77 : BitVec 32 := Scalar.muli v9 c4_i32_39
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v79 : BitVec 32 := Scalar.muli v8 c1_i32_40
  let v80 : BitVec 32 := Scalar.addi v78 v79
  v80.toNat
def k0_dev3 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v105 : BitVec 32 := Scalar.muli v2 c8_i32_54
  let v106 : BitVec 32 := Scalar.addi c0_i32_55 v105
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v107 : BitVec 32 := Scalar.muli v9 c4_i32_56
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v109 : BitVec 32 := Scalar.muli v8 c1_i32_57
  let v110 : BitVec 32 := Scalar.addi v108 v109
  v110.toNat
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S64 : Shape := ⟨1, ![64]⟩
abbrev S1x64 : Shape := ⟨2, ![1, 64]⟩
abbrev S8x1 : Shape := ⟨2, ![8, 1]⟩
abbrev S8x64x16 : Shape := ⟨3, ![8, 64, 16]⟩
abbrev S8x1024 : Shape := ⟨2, ![8, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S128x16x8x64, .bf16⟩
  | .hbm, ⟨2, _⟩ => ⟨S128x16x8x64, .bf16⟩
  | .hbm, ⟨3, _⟩ => ⟨S8x64, .i32⟩
  | .hbm, ⟨4, _⟩ => ⟨S8, .i32⟩
  | .hbm, ⟨5, _⟩ => ⟨S8x1x8x64, .f32⟩
  | .hbm, ⟨6, _⟩ => ⟨S128x16x8x64, .f32⟩
  | .hbm, ⟨7, _⟩ => ⟨S128x16x8x64, .f32⟩
  | .hbm, ⟨8, _⟩ => ⟨S_, .i32⟩
  | .hbm, ⟨9, _⟩ => ⟨S8x64, .i32⟩
  | .hbm, ⟨10, _⟩ => ⟨S8x64, .i1⟩
  | .hbm, ⟨11, _⟩ => ⟨S_, .i32⟩
  | .hbm, ⟨12, _⟩ => ⟨S8x64, .i32⟩
  | .hbm, ⟨13, _⟩ => ⟨S8x64, .i32⟩
  | .hbm, ⟨14, _⟩ => ⟨S8x64, .i32⟩
  | .hbm, ⟨15, _⟩ => ⟨S8x64x1, .i32⟩
  | .hbm, ⟨16, _⟩ => ⟨S8x64x16x8x64, .f32⟩
  | .hbm, ⟨17, _⟩ => ⟨S8x1024x8x64, .f32⟩
  | .hbm, ⟨18, _⟩ => ⟨S_, .i32⟩
  | .hbm, ⟨19, _⟩ => ⟨S8x64, .i32⟩
  | .hbm, ⟨20, _⟩ => ⟨S8x64, .i1⟩
  | .hbm, ⟨21, _⟩ => ⟨S_, .i32⟩
  | .hbm, ⟨22, _⟩ => ⟨S8x64, .i32⟩
  | .hbm, ⟨23, _⟩ => ⟨S8x64, .i32⟩
  | .hbm, ⟨24, _⟩ => ⟨S8x64, .i32⟩
  | .hbm, ⟨25, _⟩ => ⟨S8x64x1, .i32⟩
  | .hbm, ⟨26, _⟩ => ⟨S8x64x16x8x64, .f32⟩
  | .hbm, ⟨27, _⟩ => ⟨S8x1024x8x64, .f32⟩
  | .hbm, ⟨28, _⟩ => ⟨S8x8x1x1024, .f32⟩
  | .hbm, ⟨29, _⟩ => ⟨S_, .f32⟩
  | .hbm, ⟨30, _⟩ => ⟨S8x8x1x1024, .f32⟩
  | .hbm, ⟨31, _⟩ => ⟨S8x8x1x1024, .f32⟩
  | .hbm, ⟨32, _⟩ => ⟨S64, .i32⟩
  | .hbm, ⟨33, _⟩ => ⟨S1x64, .i32⟩
  | .hbm, ⟨34, _⟩ => ⟨S8x1, .i32⟩
  | .hbm, ⟨35, _⟩ => ⟨S8x64, .i32⟩
  | .hbm, ⟨36, _⟩ => ⟨S8x64, .i32⟩
  | .hbm, ⟨37, _⟩ => ⟨S8x64, .i1⟩
  | .hbm, ⟨38, _⟩ => ⟨S8x64x16, .i1⟩
  | .hbm, ⟨39, _⟩ => ⟨S8x1024, .i1⟩
  | .hbm, ⟨40, _⟩ => ⟨S8x1x1x1024, .i1⟩
  | .hbm, ⟨41, _⟩ => ⟨S_, .f32⟩
  | .hbm, ⟨42, _⟩ => ⟨S_, .f32⟩
  | .hbm, ⟨43, _⟩ => ⟨S8x8x1x1024, .i1⟩
  | .hbm, ⟨44, _⟩ => ⟨S8x8x1x1024, .f32⟩
  | .hbm, ⟨45, _⟩ => ⟨S8x8x1x1024, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x1024, .f32⟩
  | .hbm, ⟨50, _⟩ => ⟨S8x8x1x1024, .f32⟩
  | .hbm, ⟨51, _⟩ => ⟨S8x8x1x1024, .f32⟩
  | .hbm, ⟨52, _⟩ => ⟨S_, .f32⟩
  | .hbm, ⟨53, _⟩ => ⟨S8x8x1, .f32⟩
  | .hbm, ⟨54, _⟩ => ⟨S8x8x1x1, .f32⟩
  | .hbm, ⟨55, _⟩ => ⟨S8x8x1x1024, .f32⟩
  | .hbm, ⟨56, _⟩ => ⟨S8x8x1x1024, .f32⟩
  | .hbm, ⟨57, _⟩ => ⟨S8x8x64x1, .f32⟩
  | .hbm, ⟨58, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Slots.lean ====
/-
# 01_k — `Slots`: the two scratch buffers' slots and the devices that exchange them

Each device of the mesh (2 × 2 × 4, the device's number is `8 x + 4 y + z`) exchanges with the one device that differs
from it in `y` alone (`peer`). Both scratch buffers have two slots along their first axis: slot 0 holds what the device
computed itself, slot 1 receives what `peer` computed. This module names the slots and proves what a transfer from
slot 0 into slot 1 leaves to be read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Exec.Geometry
public import Idealize.ShloMosaic.Lib.Ring
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## Who exchanges with whom -/

set_option backward.proofsInPublic true in
/-- The device with the same `x` and `z` and the other `y`. -/
def peer (c : Dev nD) : Dev nD := ⟨c.val / 8 * 8 + (1 - c.val / 4 % 2) * 4 + c.val % 4, by
  have h : c.val < 16 := c.isLt
  show _ < 16
  omega⟩

/-- Exchanging twice comes back. -/
theorem peer_peer (c : Dev nD) : peer (peer c) = c := by revert c; decide

/-- The three device numbers the kernel computes (for its signal and its two transfers) are all `peer`'s. -/
theorem dev1_peer (c : Dev nD) : (⟨k0_dev1 c, k0_dev1_lt c⟩ : Dev nD) = peer c := by revert c; decide +kernel
theorem dev2_peer (c : Dev nD) : (⟨k0_dev2 c, k0_dev2_lt c⟩ : Dev nD) = peer c := by revert c; decide +kernel
theorem dev3_peer (c : Dev nD) : (⟨k0_dev3 c, k0_dev3_lt c⟩ : Dev nD) = peer c := by revert c; decide +kernel

/-- `peer` as a rearrangement of the devices. -/
def swap : Dev nD ≃ Dev nD := ⟨peer, peer, peer_peer, peer_peer⟩

/-! ## The scratch buffers and their slots -/

abbrev oM : Memref sig .tc .vmem S2x8x8x64 .f32 := Memref.whole cc0_scratch0
abbrev mlM : Memref sig .tc .vmem S2x2x8x8 .f32 := Memref.whole cc0_scratch1

abbrev rO0 : Rect S2x8x8x64 := Rect.unit (s := S2x8x8x64) ![0, 0, 0, 0] S1x8x8x64.size inb_S2x8x8x64_S1x8x8x64_0_0_0_0
abbrev rO1 : Rect S2x8x8x64 := Rect.unit (s := S2x8x8x64) ![1, 0, 0, 0] S1x8x8x64.size inb_S2x8x8x64_S1x8x8x64_1_0_0_0
abbrev rS0 : Rect S2x2x8x8 := Rect.unit (s := S2x2x8x8) ![0, 0, 0, 0] S1x2x8x8.size inb_S2x2x8x8_S1x2x8x8_0_0_0_0
abbrev rS1 : Rect S2x2x8x8 := Rect.unit (s := S2x2x8x8) ![1, 0, 0, 0] S1x2x8x8.size inb_S2x2x8x8_S1x2x8x8_1_0_0_0
/-- Within a slot of the statistics buffer: the maxima (row 0) and the sums (row 1). -/
abbrev r00 : Rect S2x2x8x8 := Rect.unit (s := S2x2x8x8) ![0, 0, 0, 0] S1x1x8x8.size inb_S2x2x8x8_S1x1x8x8_0_0_0_0
abbrev r01 : Rect S2x2x8x8 := Rect.unit (s := S2x2x8x8) ![0, 1, 0, 0] S1x1x8x8.size inb_S2x2x8x8_S1x1x8x8_0_1_0_0
abbrev r10 : Rect S2x2x8x8 := Rect.unit (s := S2x2x8x8) ![1, 0, 0, 0] S1x1x8x8.size inb_S2x2x8x8_S1x1x8x8_1_0_0_0
abbrev r11 : Rect S2x2x8x8 := Rect.unit (s := S2x2x8x8) ![1, 1, 0, 0] S1x1x8x8.size inb_S2x2x8x8_S1x1x8x8_1_1_0_0

abbrev oSrc : Memref sig .tc .vmem S8x8x64 .f32 := (oM.slice rO0 (fun _ => rfl)).squeeze S8x8x64 squeezes_S1x8x8x64_S8x8x64
abbrev oDst : Memref sig .tc .vmem S8x8x64 .f32 := (oM.slice rO1 (fun _ => rfl)).squeeze S8x8x64 squeezes_S1x8x8x64_S8x8x64
abbrev mSrc : Memref sig .tc .vmem S2x8x8 .f32 := (mlM.slice rS0 (fun _ => rfl)).squeeze S2x8x8 squeezes_S1x2x8x8_S2x8x8
abbrev mDst : Memref sig .tc .vmem S2x8x8 .f32 := (mlM.slice rS1 (fun _ => rfl)).squeeze S2x8x8 squeezes_S1x2x8x8_S2x8x8

abbrev OBuf (F : FTy → Type) [FloatOps F] : Type := (cc0_scratch0 : Ref sig .tc).ty.Contents (Elt F)
abbrev MBuf (F : FTy → Type) [FloatOps F] : Type := (cc0_scratch1 : Ref sig .tc).ty.Contents (Elt F)

/-! ## The slots' elements -/

theorem set_oSrc : (oSrc : Memref sig .tc .vmem S8x8x64 .f32).view.set = rO0.set := by
  rw [Memref.set_view_squeeze]; exact View.set_slice_whole _ _
theorem set_oDst : (oDst : Memref sig .tc .vmem S8x8x64 .f32).view.set = rO1.set := by
  rw [Memref.set_view_squeeze]; exact View.set_slice_whole _ _
theorem set_mSrc : (mSrc : Memref sig .tc .vmem S2x8x8 .f32).view.set = rS0.set := by
  rw [Memref.set_view_squeeze]; exact View.set_slice_whole _ _
theorem set_mDst : (mDst : Memref sig .tc .vmem S2x8x8 .f32).view.set = rS1.set := by
  rw [Memref.set_view_squeeze]; exact View.set_slice_whole _ _

/-- An element lies in slot `k` when its first coordinate is `k`. -/
theorem mem_rO0 (i : S2x8x8x64.Idx) : i ∈ rO0.set ↔ (i 0 : ℕ) = 0 := by
  rw [Rect.mem_set_unit]
  constructor
  · intro h; have := h 0; simp at this; omega
  · intro h a; have := (i a).isLt; fin_cases a <;> simp_all <;> omega
theorem mem_rO1 (i : S2x8x8x64.Idx) : i ∈ rO1.set ↔ (i 0 : ℕ) = 1 := by
  rw [Rect.mem_set_unit]
  constructor
  · intro h; have := h 0; simp at this; omega
  · intro h a; have := (i a).isLt; fin_cases a <;> simp_all <;> omega
theorem mem_rS0 (i : S2x2x8x8.Idx) : i ∈ rS0.set ↔ (i 0 : ℕ) = 0 := by
  rw [Rect.mem_set_unit]
  constructor
  · intro h; have := h 0; simp at this; omega
  · intro h a; have := (i a).isLt; fin_cases a <;> simp_all <;> omega
theorem mem_rS1 (i : S2x2x8x8.Idx) : i ∈ rS1.set ↔ (i 0 : ℕ) = 1 := by
  rw [Rect.mem_set_unit]
  constructor
  · intro h; have := h 0; simp at this; omega
  · intro h a; have := (i a).isLt; fin_cases a <;> simp_all <;> omega

/-- The two slots of each buffer, by slot number: disjoint, and together the whole buffer. -/
abbrev oSlots : Fin 2 → Finset S2x8x8x64.Idx := ![oSrc.view.set, oDst.view.set]
abbrev mSlots : Fin 2 → Finset S2x2x8x8.Idx := ![mSrc.view.set, mDst.view.set]

theorem oSlots_disjoint : ∀ a b, a ≠ b → Disjoint (oSlots a) (oSlots b) := by
  have h : Disjoint oSrc.view.set oDst.view.set := by
    rw [set_oSrc, set_oDst]
    exact Finset.disjoint_left.mpr fun i h0 h1 => by
      have e0 := (mem_rO0 i).mp h0; have e1 := (mem_rO1 i).mp h1; omega
  intro a b hab
  fin_cases a <;> fin_cases b
  · exact absurd rfl hab
  · exact h
  · exact h.symm
  · exact absurd rfl hab
theorem oSlots_cover : Finset.univ.biUnion oSlots = Finset.univ := by
  refine Finset.eq_univ_iff_forall.mpr fun i => Finset.mem_biUnion.mpr ?_
  have hi : (i 0 : ℕ) < 2 := (i 0).isLt
  by_cases h : (i 0 : ℕ) = 0
  · exact ⟨0, Finset.mem_univ _, by show i ∈ oSrc.view.set; rw [set_oSrc]; exact (mem_rO0 i).mpr h⟩
  · exact ⟨1, Finset.mem_univ _, by show i ∈ oDst.view.set; rw [set_oDst]; exact (mem_rO1 i).mpr (by omega)⟩
theorem mSlots_disjoint : ∀ a b, a ≠ b → Disjoint (mSlots a) (mSlots b) := by
  have h : Disjoint mSrc.view.set mDst.view.set := by
    rw [set_mSrc, set_mDst]
    exact Finset.disjoint_left.mpr fun i h0 h1 => by
      have e0 := (mem_rS0 i).mp h0; have e1 := (mem_rS1 i).mp h1; omega
  intro a b hab
  fin_cases a <;> fin_cases b
  · exact absurd rfl hab
  · exact h
  · exact h.symm
  · exact absurd rfl hab
theorem mSlots_cover : Finset.univ.biUnion mSlots = Finset.univ := by
  refine Finset.eq_univ_iff_forall.mpr fun i => Finset.mem_biUnion.mpr ?_
  have hi : (i 0 : ℕ) < 2 := (i 0).isLt
  by_cases h : (i 0 : ℕ) = 0
  · exact ⟨0, Finset.mem_univ _, by show i ∈ mSrc.view.set; rw [set_mSrc]; exact (mem_rS0 i).mpr h⟩
  · exact ⟨1, Finset.mem_univ _, by show i ∈ mDst.view.set; rw [set_mDst]; exact (mem_rS1 i).mpr (by omega)⟩

/-! ## What the loads and stores touch -/

theorem load_rO0 : (oM : Memref sig .tc .vmem S2x8x8x64 .f32).view.setOn rO0.toLoadRect.set ⊆ oSrc.view.set := by
  rw [Memref.set_view_squeeze]; exact Memref.setOn_subset_slice_of_within oM rO0 (fun _ => rfl) rO0.toLoadRect (by decide)
theorem load_rO1 : (oM : Memref sig .tc .vmem S2x8x8x64 .f32).view.setOn rO1.toLoadRect.set ⊆ oDst.view.set := by
  rw [Memref.set_view_squeeze]; exact Memref.setOn_subset_slice_of_within oM rO1 (fun _ => rfl) rO1.toLoadRect (by decide)
theorem load_r00 : (mlM : Memref sig .tc .vmem S2x2x8x8 .f32).view.setOn r00.toLoadRect.set ⊆ mSrc.view.set := by
  rw [Memref.set_view_squeeze]; exact Memref.setOn_subset_slice_of_within mlM rS0 (fun _ => rfl) r00.toLoadRect (by decide)
theorem load_r01 : (mlM : Memref sig .tc .vmem S2x2x8x8 .f32).view.setOn r01.toLoadRect.set ⊆ mSrc.view.set := by
  rw [Memref.set_view_squeeze]; exact Memref.setOn_subset_slice_of_within mlM rS0 (fun _ => rfl) r01.toLoadRect (by decide)
theorem load_r10 : (mlM : Memref sig .tc .vmem S2x2x8x8 .f32).view.setOn r10.toLoadRect.set ⊆ mDst.view.set := by
  rw [Memref.set_view_squeeze]; exact Memref.setOn_subset_slice_of_within mlM rS1 (fun _ => rfl) r10.toLoadRect (by decide)
theorem load_r11 : (mlM : Memref sig .tc .vmem S2x2x8x8 .f32).view.setOn r11.toLoadRect.set ⊆ mDst.view.set := by
  rw [Memref.set_view_squeeze]; exact Memref.setOn_subset_slice_of_within mlM rS1 (fun _ => rfl) r11.toLoadRect (by decide)
theorem store_rO0 : (oM.access rO0 : View sig .tc _ _ _).setOn Finset.univ ⊆ oSrc.view.set := by
  rw [Memref.set_view_squeeze]; exact Memref.setOn_access_subset_slice_of_within oM rO0 (fun _ => rfl) rO0 Finset.univ (by decide)
theorem store_r00 : (mlM.access r00 : View sig .tc _ _ _).setOn Finset.univ ⊆ mSrc.view.set := by
  rw [Memref.set_view_squeeze]; exact Memref.setOn_access_subset_slice_of_within mlM rS0 (fun _ => rfl) r00 Finset.univ (by decide)
theorem store_r01 : (mlM.access r01 : View sig .tc _ _ _).setOn Finset.univ ⊆ mSrc.view.set := by
  rw [Memref.set_view_squeeze]; exact Memref.setOn_access_subset_slice_of_within mlM rS0 (fun _ => rfl) r01 Finset.univ (by decide)

/-! ## What is read after the stores into slot 0 -/

/-- The output slot reads as what was stored. -/
theorem read_store_o (f : OBuf F) (w : rO0.shape.Idx → Elt F .f32) :
    oM.view.readAt (Elt F) rO0.toLoadRect ((oM.access rO0 : View sig .tc _ _ _).write (Elt F) f w Finset.univ) = w :=
  View.read_write_univ (v := oM.view.slice rO0) f w

/-- The maxima read as stored, the sums having been stored afterwards beside them; and the sums read as stored. -/
theorem read_store_m (f : MBuf F) (w : r00.shape.Idx → Elt F .f32) (w' : r01.shape.Idx → Elt F .f32) :
    mlM.view.readAt (Elt F) r00.toLoadRect ((mlM.access r01 : View sig .tc _ _ _).write (Elt F)
      ((mlM.access r00 : View sig .tc _ _ _).write (Elt F) f w Finset.univ) w' Finset.univ) = w := by
  refine (View.read_slice_write_slice_of_disjoint (v := mlM.view) r00 r01 _ w' Finset.univ ?_).trans
    (View.read_write_univ (v := mlM.view.slice r00) f w)
  refine Finset.disjoint_left.mpr fun i h0 h1 => ?_
  have e0 : i ∈ r00.set := by have := h0; rwa [View.set_slice_whole] at this
  have e1 : i ∈ r01.set := by have := View.setOn_subset_set _ _ h1; rwa [View.set_slice_whole] at this
  rw [Rect.mem_set_unit] at e0 e1
  have a0 := e0 1
  have a1 := e1 1
  simp at a0 a1
  omega
theorem read_store_l (f : MBuf F) (w' : r01.shape.Idx → Elt F .f32) :
    mlM.view.readAt (Elt F) r01.toLoadRect ((mlM.access r01 : View sig .tc _ _ _).write (Elt F) f w' Finset.univ) = w' :=
  View.read_write_univ (v := mlM.view.slice r01) f w'

/-! ## What is read after a transfer of slot 0 into slot 1 -/

/-- A renaming of indices loses nothing. -/
theorem eq_of_shapeCast {s t : Shape} {α : Type} (h : s.ShapeCasts t) {X Y : s.Idx → α} (e : shapeCast t X h = shapeCast t Y h) : X = Y := by
  have e' : shapeCast s (shapeCast t X h) h.symm = shapeCast s (shapeCast t Y h) h.symm := by rw [e]
  rwa [shapeCast_shapeCast, shapeCast_shapeCast] at e'

/-- The transfer leaves in slot 1 what the source's slot 0 holds. -/
theorem read_land_o (fd fs : OBuf F) :
    oM.view.readAt (Elt F) rO1.toLoadRect (oDst.view.write (Elt F) fd (oSrc.view.read (Elt F) fs) Finset.univ)
      = oM.view.readAt (Elt F) rO0.toLoadRect fs :=
  eq_of_shapeCast (s := S1x8x8x64) (t := S8x8x64) rfl
    (X := oM.view.readAt (Elt F) rO1.toLoadRect (oDst.view.write (Elt F) fd (oSrc.view.read (Elt F) fs) Finset.univ))
    (Y := oM.view.readAt (Elt F) rO0.toLoadRect fs) (View.read_write_univ (v := oDst.view) fd (oSrc.view.read (Elt F) fs))
theorem read_land_ml (fd fs : MBuf F) :
    mlM.view.readAt (Elt F) rS1.toLoadRect (mDst.view.write (Elt F) fd (mSrc.view.read (Elt F) fs) Finset.univ)
      = mlM.view.readAt (Elt F) rS0.toLoadRect fs :=
  eq_of_shapeCast (s := S1x2x8x8) (t := S2x8x8) rfl
    (X := mlM.view.readAt (Elt F) rS1.toLoadRect (mDst.view.write (Elt F) fd (mSrc.view.read (Elt F) fs) Finset.univ))
    (Y := mlM.view.readAt (Elt F) rS0.toLoadRect fs) (View.read_write_univ (v := mDst.view) fd (mSrc.view.read (Elt F) fs))

/-- The index of row `k` in a slot. -/
def rowAt (k : Fin 2) (x : S1x1x8x8.Idx) : S1x2x8x8.Idx := fun | 0 => x 0 | 1 => k | 2 => x 2 | 3 => x 3

/-- A row of a slot read on its own is that row of the slot read whole. -/
theorem row00 (f : MBuf F) (x : S1x1x8x8.Idx) :
    mlM.view.readAt (Elt F) r00.toLoadRect f x = mlM.view.readAt (Elt F) rS0.toLoadRect f (rowAt 0 x) :=
  congrArg f (funext fun a => Fin.ext (by fin_cases a <;> simp [rowAt]))
theorem row01 (f : MBuf F) (x : S1x1x8x8.Idx) :
    mlM.view.readAt (Elt F) r01.toLoadRect f x = mlM.view.readAt (Elt F) rS0.toLoadRect f (rowAt 1 x) :=
  congrArg f (funext fun a => Fin.ext (by fin_cases a <;> simp [rowAt]))
theorem row10 (f : MBuf F) (x : S1x1x8x8.Idx) :
    mlM.view.readAt (Elt F) r10.toLoadRect f x = mlM.view.readAt (Elt F) rS1.toLoadRect f (rowAt 0 x) :=
  congrArg f (funext fun a => Fin.ext (by fin_cases a <;> simp [rowAt]))
theorem row11 (f : MBuf F) (x : S1x1x8x8.Idx) :
    mlM.view.readAt (Elt F) r11.toLoadRect f x = mlM.view.readAt (Elt F) rS1.toLoadRect f (rowAt 1 x) :=
  congrArg f (funext fun a => Fin.ext (by fin_cases a <;> simp [rowAt]))

/-- After the transfer the maxima and the sums in slot 1 are those of the source's slot 0. -/
theorem read_land_m (fd fs : MBuf F) :
    mlM.view.readAt (Elt F) r10.toLoadRect (mDst.view.write (Elt F) fd (mSrc.view.read (Elt F) fs) Finset.univ)
      = mlM.view.readAt (Elt F) r00.toLoadRect fs :=
  funext fun x => (row10 _ x).trans ((congrFun (read_land_ml fd fs) (rowAt 0 x)).trans (row00 fs x).symm)
theorem read_land_l (fd fs : MBuf F) :
    mlM.view.readAt (Elt F) r11.toLoadRect (mDst.view.write (Elt F) fd (mSrc.view.read (Elt F) fs) Finset.univ)
      = mlM.view.readAt (Elt F) r01.toLoadRect fs :=
  funext fun x => (row11 _ x).trans ((congrFun (read_land_ml fd fs) (rowAt 1 x)).trans (row01 fs x).symm)

end Cert.KernelIdeal.Exchange

end
-- ==== Proof.Exchange.lean ====
/-
# 01_k — `Exchange`: the protocol between a device and its peer

Five counters on every device `c`, each waited on once by `c`:

* the barrier (raised by `peer c`'s signal, 1): the peer's slot 1 of both scratch buffers is free for `c` to write;
* the receive counter of the statistics (raised by `peer c`'s first transfer): slot 1 of the statistics buffer holds the
  peer's maxima and sums;
* the send counter of the statistics (raised by `c`'s own first transfer): slot 0 of the statistics buffer is `c`'s again;
* the receive and the send counter of the output buffer, the same for the second transfer.

One round, one duty per counter. A device owes its peer the barrier's unit and the two receive credits, and pays them in
the order barrier, statistics, output.
-/
module

public import proofs.«01_k».proof.Proof.Slots

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## What a device computes before it hears from its peer -/

/-- The device's operands as staged for the kernel. -/
def inQ (c : Dev nD) : (cc0_stg0_0 : Ref sig .tc).ty.Contents (Elt F) := (win0_0.blk (0 : Fin 1)).view.read (Elt F) (m ((c : Thread nD τ).loc main_arg0))
def inK (c : Dev nD) : (cc0_stg1_0 : Ref sig .tc).ty.Contents (Elt F) := (win0_1.blk (0 : Fin 1)).view.read (Elt F) (m ((c : Thread nD τ).loc main_arg1))
def inV (c : Dev nD) : (cc0_stg2_0 : Ref sig .tc).ty.Contents (Elt F) := (win0_2.blk (0 : Fin 1)).view.read (Elt F) (m ((c : Thread nD τ).loc main_arg2))
def inB (c : Dev nD) : (cc0_stg3_0 : Ref sig .tc).ty.Contents (Elt F) := (win0_3.blk (0 : Fin 1)).view.read (Elt F) (m ((c : Thread nD τ).loc main_arg3))
def inL (c : Dev nD) : (cc0_stg4_0 : Ref sig .tc).ty.Contents (Elt F) := (win0_4.blk (0 : Fin 1)).view.read (Elt F) (m ((c : Thread nD τ).loc main_arg4))

/-- How often each of its pages is named, per sequence. -/
def counts (c : Dev nD) : FVec F S8x64x1 .f32 := k0_pay2 c (inB m c) (inL m c)
/-- Its maxima, weights, sums and weighted values. -/
def maxOwn (c : Dev nD) : FVec F S8x8 .f32 := k0_pay6 (counts m c) (inK m c) (inQ m c)
def wOwn (c : Dev nD) : FVec F S8x8x1024 .f32 := k0_pay7 (counts m c) (inK m c) (inQ m c)
def sumOwn (c : Dev nD) : FVec F S8x8 .f32 := k0_pay8 (counts m c) (inK m c) (inQ m c)
def outOwn (c : Dev nD) : FVec F S8x8x64 .f32 := k0_pay11 (k0_pay4 (inV m c)) (wOwn m c)
/-- The same as it puts them into slot 0. -/
def maxSlot (c : Dev nD) : r00.shape.Idx → Elt F .f32 := k0_pay9 (counts m c) (inK m c) (inQ m c)
def sumSlot (c : Dev nD) : r01.shape.Idx → Elt F .f32 := k0_pay10 (sumOwn m c)
def outSlot (c : Dev nD) : rO0.shape.Idx → Elt F .f32 := k0_pay12 (k0_pay4 (inV m c)) (wOwn m c)

/-- The kernel's result on device `c`. -/
def result (c : Dev nD) : (cc0_stg5_0 : Ref sig .tc).ty.Contents (Elt F) :=
  k0_pay1 (k0_pay13 (outSlot m (peer c))) (k0_pay17 (maxOwn m c) (maxSlot m (peer c)))
    (k0_pay18 (maxOwn m c) (sumOwn m c) (maxSlot m (peer c)) (sumSlot m (peer c)))
    (k0_pay19 (maxOwn m c) (outOwn m c) (maxSlot m (peer c)))

/-! ## The counters -/

abbrev barS : Sem sig := (SemArray.scalar (sig.barrier 0 rfl) : Sems sig S_).sem

/-- Barrier; output sent, output received; statistics sent, statistics received. -/
abbrev csem : Fin 5 → SemLoc sig := fun
  | 0 => .reg barS | 1 => .dma cc0_scratch2.sem | 2 => .dma cc0_scratch3.sem | 3 => .dma cc0_scratch4.sem | 4 => .dma cc0_scratch5.sem
/-- The four the kernel owns. -/
abbrev osem : Fin 4 → SemLoc sig := fun
  | 0 => .dma cc0_scratch2.sem | 1 => .dma cc0_scratch3.sem | 2 => .dma cc0_scratch4.sem | 3 => .dma cc0_scratch5.sem
abbrev kcell (ck : Dev nD × Fin 5) : GSem nD τ sig := ((ck.1 : Thread nD τ), csem ck.2)

abbrev NO : ℕ := (oDst : Memref sig .tc .vmem S8x8x64 .f32).view.dmaCredit
abbrev NM : ℕ := (mDst : Memref sig .tc .vmem S2x8x8 .f32).view.dmaCredit
theorem NO_pos : 0 < NO := View.dmaCredit_pos _ (by decide)
theorem NM_pos : 0 < NM := View.dmaCredit_pos _ (by decide)

/-- Which of the five a semaphore is (a semaphore that is none of them counts as the last). -/
def which (s : SemLoc sig) : Fin 5 := if s = csem 0 then 0 else if s = csem 1 then 1 else if s = csem 2 then 2 else if s = csem 3 then 3 else 4
theorem which_csem (k : Fin 5) : which (csem k) = k := by revert k; decide
theorem csem_injective : Function.Injective csem := fun a b h => by rw [← which_csem a, ← which_csem b, h]

/-- What each counts. -/
def amt : Fin 5 → ℕ := fun | 0 => 1 | 1 => NO | 2 => NO | 3 => NM | 4 => NM
theorem amt_pos (k : Fin 5) : 0 < amt k := by
  fin_cases k
  · exact Nat.one_pos
  · exact NO_pos
  · exact NO_pos
  · exact NM_pos
  · exact NM_pos

/-! ## What each hands over -/

/-- Slot 0 and slot 1 of the two buffers on device `c`, at contents `f`. -/
def oSrcAt (c : Dev nD) (f : Buf (Elt F) ((c : Thread nD τ).loc cc0_scratch0)) : sProp 𝕄 :=
  (oSrc : Memref sig .tc .vmem S8x8x64 .f32).view.loc (c : Thread nD τ) ↦[(oSrc : Memref sig .tc .vmem S8x8x64 .f32).view.set]{fullShare} f
def oDstAt (c : Dev nD) (f : Buf (Elt F) ((c : Thread nD τ).loc cc0_scratch0)) : sProp 𝕄 :=
  (oDst : Memref sig .tc .vmem S8x8x64 .f32).view.loc (c : Thread nD τ) ↦[(oDst : Memref sig .tc .vmem S8x8x64 .f32).view.set]{fullShare} f
def mSrcAt (c : Dev nD) (f : Buf (Elt F) ((c : Thread nD τ).loc cc0_scratch1)) : sProp 𝕄 :=
  (mSrc : Memref sig .tc .vmem S2x8x8 .f32).view.loc (c : Thread nD τ) ↦[(mSrc : Memref sig .tc .vmem S2x8x8 .f32).view.set]{fullShare} f
def mDstAt (c : Dev nD) (f : Buf (Elt F) ((c : Thread nD τ).loc cc0_scratch1)) : sProp 𝕄 :=
  (mDst : Memref sig .tc .vmem S2x8x8 .f32).view.loc (c : Thread nD τ) ↦[(mDst : Memref sig .tc .vmem S2x8x8 .f32).view.set]{fullShare} f

instance oSrcAt_storable (c : Dev nD) (f) : BI.Storable (upEmb : UEmb _ 𝕄) (oSrcAt (F := F) c f) := by unfold oSrcAt; infer_instance
instance oDstAt_storable (c : Dev nD) (f) : BI.Storable (upEmb : UEmb _ 𝕄) (oDstAt (F := F) c f) := by unfold oDstAt; infer_instance
instance mSrcAt_storable (c : Dev nD) (f) : BI.Storable (upEmb : UEmb _ 𝕄) (mSrcAt (F := F) c f) := by unfold mSrcAt; infer_instance
instance mDstAt_storable (c : Dev nD) (f) : BI.Storable (upEmb : UEmb _ 𝕄) (mDstAt (F := F) c f) := by unfold mDstAt; infer_instance

/-- The barrier: the peer's two slots to be written, and that its two receive counters stand at round 0. -/
def barPay (c : Dev nD) : sProp 𝕄 :=
  iprop((∃ f, oDstAt (peer c) f) ∗ (∃ f, mDstAt (peer c) f) ∗ reached EX (kcell (peer c, 2)) 0 ∗ reached EX (kcell (peer c, 4)) 0)
/-- A send: slot 0 back. -/
def oSentPay (c : Dev nD) : sProp 𝕄 := iprop(∃ f, oSrcAt c f)
def mSentPay (c : Dev nD) : sProp 𝕄 := iprop(∃ f, mSrcAt c f)
/-- A receive: slot 1 with the peer's values. -/
def oRecvPay (c : Dev nD) : sProp 𝕄 :=
  iprop(∃ f : Buf (Elt F) ((c : Thread nD τ).loc cc0_scratch0), ⌜oM.view.readAt (Elt F) rO1.toLoadRect f = outSlot m (peer c)⌝ ∗ oDstAt c f)
def mRecvPay (c : Dev nD) : sProp 𝕄 :=
  iprop(∃ f : Buf (Elt F) ((c : Thread nD τ).loc cc0_scratch1), ⌜mlM.view.readAt (Elt F) r10.toLoadRect f = maxSlot m (peer c)
    ∧ mlM.view.readAt (Elt F) r11.toLoadRect f = sumSlot m (peer c)⌝ ∗ mDstAt c f)

def pay (k : Fin 5) (c : Dev nD) : sProp 𝕄 := match k with
  | 0 => barPay c | 1 => oSentPay c | 2 => oRecvPay m c | 3 => mSentPay c | 4 => mRecvPay m c

instance pay_storable (k : Fin 5) (c : Dev nD) : BI.Storable (upEmb : UEmb _ 𝕄) (pay (F := F) m k c) := by
  fin_cases k
  · show BI.Storable _ (barPay c); unfold barPay; infer_instance
  · show BI.Storable _ (oSentPay c); unfold oSentPay; infer_instance
  · show BI.Storable _ (oRecvPay m c); unfold oRecvPay; infer_instance
  · show BI.Storable _ (mSentPay c); unfold mSentPay; infer_instance
  · show BI.Storable _ (mRecvPay m c); unfold mRecvPay; infer_instance

/-! ## The schedule -/

/-- One duty, at round 0, for each of the five counters of every device. -/
def sched : Rounds.Schedule (GSem nD τ sig) Unit 𝕄 where
  duties g r := if r = 0 ∧ g.1.2 = .tc ∧ csem (which g.2) = g.2 then {()} else ∅
  unitless _ := False
  amount g _ _ := amt (which g.2)
  payload g _ _ := pay m (which g.2) g.1.1
  amount_pos g _ _ _ := amt_pos _

instance sched_payload_storable (g : GSem nD τ sig) (r : ℕ) (d : Unit) : BI.Storable (upEmb : UEmb _ 𝕄) ((sched (F := F) m).payload g r d) := by
  show BI.Storable _ (pay m (which g.2) g.1.1); infer_instance

section Sched
variable (c : Dev nD) (k : Fin 5)

theorem duties_at : (sched (F := F) m).duties (kcell (c, k)) 0 = {()} := by
  dsimp only [sched]; rw [which_csem]; exact if_pos ⟨rfl, rfl, rfl⟩
theorem duty_mem : () ∈ (sched (F := F) m).duties (kcell (c, k)) 0 := by rw [duties_at]; exact Finset.mem_singleton_self _
theorem duties_later (g : GSem nD τ sig) : ∀ r, 1 ≤ r → (sched (F := F) m).duties g r = ∅ :=
  fun r hr => by dsimp only [sched]; rw [if_neg fun h => by omega]
theorem amount_at : (sched (F := F) m).amount (kcell (c, k)) 0 () = amt k := by dsimp only [sched]; rw [which_csem]
theorem payload_at : (sched (F := F) m).payload (kcell (c, k)) 0 () = pay m k c := by dsimp only [sched]; rw [which_csem]
theorem payload_bar : (sched (F := F) m).payload (kcell (c, 0)) 0 () = barPay c := payload_at m c 0
theorem payload_oSent : (sched (F := F) m).payload (kcell (c, 1)) 0 () = oSentPay c := payload_at m c 1
theorem payload_oRecv : (sched (F := F) m).payload (kcell (c, 2)) 0 () = oRecvPay m c := payload_at m c 2
theorem payload_mSent : (sched (F := F) m).payload (kcell (c, 3)) 0 () = mSentPay c := payload_at m c 3
theorem payload_mRecv : (sched (F := F) m).payload (kcell (c, 4)) 0 () = mRecvPay m c := payload_at m c 4
theorem expect_at : (sched (F := F) m).expect (kcell (c, k)) 0 = amt k := by
  unfold Schedule.expect Schedule.amountOf; rw [duties_at, Finset.sum_singleton, amount_at]
/-- A counter's whole round is its one payload. -/
theorem rest_at : bigSep ((sched (F := F) m).duties (kcell (c, k)) 0 \ ∅) (fun d => (sched (F := F) m).payload (kcell (c, k)) 0 d) = pay m k c := by
  rw [Finset.sdiff_empty, duties_at, bigSep_singleton, payload_at]

end Sched

/-! ## What is owed, and the order of the waits -/

/-- After the barrier signal and the statistics: the output's credit; before: both; at launch: all three. -/
def O₂ (c : Dev nD) : CellTallies nD τ sig Unit := tallyAt (kcell (peer c, 2)) () NO
def O₁ (c : Dev nD) : CellTallies nD τ sig Unit := O₂ c + tallyAt (kcell (peer c, 4)) () NM
def O₀ (c : Dev nD) : CellTallies nD τ sig Unit := O₁ c + tallyAt (kcell (peer c, 0)) () 1

def L (g : GSem nD τ sig) : Finset Unit := if g.1.2 = .tc then {()} else ∅
/-- The barrier at 1, the two receive counters at 2, everything else at 0. -/
def lv (g : GSem nD τ sig) (_ : Unit) : ℕ := if g.2 = csem 0 then 1 else if g.2 = csem 2 ∨ g.2 = csem 4 then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : g = kcell (peer c, 2) ∨ g = kcell (peer c, 4) := by
  unfold O₁ O₂ at h
  rw [Pi.add_apply, Finsupp.add_apply] at h
  rcases Nat.add_pos_iff_pos_or_pos.mp h with h | h
  · exact Or.inl (tallyAt_pos h)
  · exact Or.inr (tallyAt_pos h)
theorem O₀_pos {c : Dev nD} {g : GSem nD τ sig} {u : Unit} (h : 0 < O₀ c g u) :
    g = kcell (peer c, 2) ∨ g = kcell (peer c, 4) ∨ g = kcell (peer c, 0) := by
  unfold O₀ at h
  rw [Pi.add_apply, Finsupp.add_apply] at h
  rcases Nat.add_pos_iff_pos_or_pos.mp h with h | h
  · rcases O₁_pos h with h | h
    · exact Or.inl h
    · exact Or.inr (Or.inl h)
  · exact Or.inr (Or.inr (tallyAt_pos h))

theorem lv_bar (c : Dev nD) : lv (kcell (c, 0)) () = 1 := if_pos rfl
theorem lv_oRecv (c : Dev nD) : lv (kcell (c, 2)) () = 2 := by unfold lv; rw [if_neg (by show csem 2 ≠ csem 0; decide), if_pos (Or.inl rfl)]
theorem lv_mRecv (c : Dev nD) : lv (kcell (c, 4)) () = 2 := by unfold lv; rw [if_neg (by show csem 4 ≠ csem 0; decide), if_pos (Or.inr rfl)]

/-- The pipeline's own waits stand below everything owed. -/
theorem mayWait_stage (c : Dev nD) (q : DmaSem sig) (h2 : SemLoc.dma q ≠ csem 2) (h4 : SemLoc.dma q ≠ csem 4)
    (O : CellTallies nD τ sig Unit) (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; unfold lv
        rw [if_neg (fun h => by cases h), if_neg (fun h => h.elim h2 h4)])
      (fun g u hg => by
        cases u
        rcases O₀_pos hg with rfl | rfl | rfl
        · rw [lv_oRecv]; decide
        · rw [lv_mRecv]; decide
        · rw [lv_bar]; decide)
  · rw [MayWait_zero]; iintro -; iempintro

/-- At the barrier a device owes the two receive credits, which stand above it. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c))
    (fun g u hg => by
      cases u
      rcases O₁_pos hg with rfl | rfl
      · rw [lv_oRecv]; decide
      · rw [lv_mRecv]; decide)

/-! ## The pipeline's proof data -/

/-- The counters' invariants device `c` opens: its own five, and its peer's barrier and two receive counters. -/
def invs (K : Dev nD × Fin 5 → ℕ) (c : Dev nD) : sProp 𝕄 :=
  iprop((cellInv EX (sched m) (K (c, 0)) (kcell (c, 0)) ∗ cellInv EX (sched m) (K (c, 1)) (kcell (c, 1)) ∗ cellInv EX (sched m) (K (c, 2)) (kcell (c, 2))
      ∗ cellInv EX (sched m) (K (c, 3)) (kcell (c, 3)) ∗ cellInv EX (sched m) (K (c, 4)) (kcell (c, 4)))
    ∗ cellInv EX (sched m) (K (peer c, 0)) (kcell (peer c, 0)) ∗ cellInv EX (sched m) (K (peer c, 2)) (kcell (peer c, 2))
    ∗ cellInv EX (sched m) (K (peer c, 4)) (kcell (peer c, 4)))

instance invs_persistent (K : Dev nD × Fin 5 → ℕ) (c : Dev nD) : BI.Persistent (invs m K c) := by unfold invs; infer_instance

/-- The ends of its own five counters, the marks of the counters it raises or hands over, the duties it pays. -/
def ghost (K : Dev nD × Fin 5 → ℕ) (c : Dev nD) : sProp 𝕄 :=
  iprop(invs m K c
    ∗ (atPos EX (kcell (c, 0)) 0 ∅ 0 ∗ atPos EX (kcell (c, 1)) 0 ∅ 0 ∗ atPos EX (kcell (c, 2)) 0 ∅ 0 ∗ atPos EX (kcell (c, 3)) 0 ∅ 0 ∗ atPos EX (kcell (c, 4)) 0 ∅ 0)
    ∗ (reached EX (kcell (c, 1)) 0 ∗ reached EX (kcell (c, 2)) 0 ∗ reached EX (kcell (c, 3)) 0 ∗ reached EX (kcell (c, 4)) 0
      ∗ reached EX (kcell (peer c, 0)) 0)
    ∗ (dutyTok EX (kcell (peer c, 0)) 0 () ∗ dutyTok EX (kcell (c, 1)) 0 () ∗ dutyTok EX (kcell (peer c, 2)) 0 () ∗ dutyTok EX (kcell (c, 3)) 0 ()
      ∗ dutyTok EX (kcell (peer c, 4)) 0 ()))

/-- What device `c` starts from: that, its three credits and the levels. -/
def start (c : Dev nD) : sProp 𝕄 :=
  iprop((∃ K, ghost m K c) ∗ (cred (tallyAt (kcell (c, 0)) () 1) ∗ cred (tallyAt (kcell (c, 2)) () NO) ∗ cred (tallyAt (kcell (c, 4)) () NM)) ∗ levAts L lv)

/-- The scratch buffers in their slots. -/
def slots (c : Dev nD) : sProp 𝕄 := iprop(((∃ f, oSrcAt c f) ∗ ∃ f, oDstAt c f) ∗ ((∃ f, mSrcAt c f) ∗ ∃ f, mDstAt c f))

def Φ₀ (c : Dev nD) : sProp 𝕄 := iprop(start m c ∗ slots c)
/-- Afterwards: the slots, and all five counters at zero. -/
def Φ₁ (c : Dev nD) : sProp 𝕄 :=
  iprop(slots c ∗ semVal (kcell (c, 0)) 0 ∗ semVal (kcell (c, 1)) 0 ∗ semVal (kcell (c, 2)) 0 ∗ semVal (kcell (c, 3)) 0 ∗ semVal (kcell (c, 4)) 0)

def dats (_ : Fin 1) (c : Dev nD) : Dat τ (Elt F) Unit ℕ UU ℕ cfg0 c where
  A w := m ((cfg0.win w).arr.view.loc (c : Thread nD τ))
  after w _ := match w with
    | ⟨0, _⟩ => inQ m c
    | ⟨1, _⟩ => inK m c
    | ⟨2, _⟩ => inV m c
    | ⟨3, _⟩ => inB m c
    | ⟨4, _⟩ => inL m c
    | ⟨5, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The slots of a whole buffer -/

theorem slots_of_whole (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ⊢ (slots c : sProp 𝕄) := by
  unfold slots
  iintro ⟨Ho, Hm⟩
  isplitl [Ho]
  · iapply (Ring.slots2_split (ℓ := (c : Thread nD τ).loc cc0_scratch0) (J := oSlots) oSlots_disjoint oSlots_cover (oSrcAt c) (oDstAt c) (fun _ => rfl) (fun _ => rfl)) $$ Ho
  · iapply (Ring.slots2_split (ℓ := (c : Thread nD τ).loc cc0_scratch1) (J := mSlots) mSlots_disjoint mSlots_cover (mSrcAt c) (mDstAt c) (fun _ => rfl) (fun _ => rfl)) $$ Hm

theorem whole_of_slots (c : Dev nD) :
    (slots c : sProp 𝕄) ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  unfold slots
  iintro ⟨Ho, Hm⟩
  isplitl [Ho]
  · iapply (Ring.slots2_join (ℓ := (c : Thread nD τ).loc cc0_scratch0) (J := oSlots) oSlots_disjoint oSlots_cover (oSrcAt c) (oDstAt c) (fun _ => rfl) (fun _ => rfl)) $$ Ho
  · iapply (Ring.slots2_join (ℓ := (c : Thread nD τ).loc cc0_scratch1) (J := mSlots) mSlots_disjoint mSlots_cover (mSrcAt c) (mDstAt c) (fun _ => rfl) (fun _ => rfl)) $$ Hm

end Cert.KernelIdeal.Exchange

end
-- ==== Proof.Body.lean ====
/-
# 01_k — `Body`: the kernel on one device, run under the exchange's protocol
-/
module

public import proofs.«01_k».proof.Proof.Exchange

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The loads and stores of whole staging buffers -/

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

theorem load_Q (f : (cc0_stg0_0 : Ref sig .tc).ty.Contents (Elt F)) :
    (Memref.whole cc0_stg0_0 : Memref sig .tc .vmem S8x1x8x64 .bf16).view.readAt (Elt F)
      (Rect.unit (s := S8x1x8x64) ![0, 0, 0, 0] S8x1x8x64.size inb_S8x1x8x64_S8x1x8x64_0_0_0_0).toLoadRect f = f :=
  Memref.readAt_unit_zero (Elt F) cc0_stg0_0 zeros4 _ f
theorem load_K (f : (cc0_stg1_0 : Ref sig .tc).ty.Contents (Elt F)) :
    (Memref.whole cc0_stg1_0 : Memref sig .tc .vmem S64x16x8x64 .bf16).view.readAt (Elt F)
      (Rect.unit (s := S64x16x8x64) ![0, 0, 0, 0] S64x16x8x64.size inb_S64x16x8x64_S64x16x8x64_0_0_0_0).toLoadRect f = f :=
  Memref.readAt_unit_zero (Elt F) cc0_stg1_0 zeros4 _ f
theorem load_V (f : (cc0_stg2_0 : Ref sig .tc).ty.Contents (Elt F)) :
    (Memref.whole cc0_stg2_0 : Memref sig .tc .vmem S64x16x8x64 .bf16).view.readAt (Elt F)
      (Rect.unit (s := S64x16x8x64) ![0, 0, 0, 0] S64x16x8x64.size inb_S64x16x8x64_S64x16x8x64_0_0_0_0).toLoadRect f = f :=
  Memref.readAt_unit_zero (Elt F) cc0_stg2_0 zeros4 _ f
theorem load_B (f : (cc0_stg3_0 : Ref sig .tc).ty.Contents (Elt F)) :
    (Memref.whole cc0_stg3_0 : Memref sig .tc .vmem S8x64 .i32).view.readAt (Elt F)
      (Rect.unit (s := S8x64) ![0, 0] S8x64.size inb_S8x64_S8x64_0_0).toLoadRect f = f :=
  Memref.readAt_unit_zero (Elt F) cc0_stg3_0 zeros2 _ f
theorem load_L (f : (cc0_stg4_0 : Ref sig .tc).ty.Contents (Elt F)) :
    (Memref.whole cc0_stg4_0 : Memref sig .tc .vmem S8 .i32).view.readAt (Elt F)
      (Rect.unit (s := S8) ![0] S8.size inb_S8_S8_0).toLoadRect f = f :=
  Memref.readAt_unit_zero (Elt F) cc0_stg4_0 zeros1 _ f
theorem store_out (f w : (cc0_stg5_0 : Ref sig .tc).ty.Contents (Elt F)) :
    ((Memref.whole cc0_stg5_0 : Memref sig .tc .vmem S8x1x8x64 .f32).access
      (Rect.unit (s := S8x1x8x64) ![0, 0, 0, 0] S8x1x8x64.size inb_S8x1x8x64_S8x1x8x64_0_0_0_0) : View sig .tc _ _ _).write (Elt F) f w Finset.univ = w :=
  Memref.write_access_unit_zero_univ (Elt F) cc0_stg5_0 zeros4 _ f w

section Body

variable (K : Dev nD × Fin 5 → ℕ)

/-! ## The two transfers -/

/-- The statistics' transfer, addressed to `n = peer c`: what slot 0 holds arrives in the peer's slot 1. -/
theorem wp_send_stats (c n : Dev nD) (hn : n = peer c) {hsc : (mDst : Memref sig (Dev.tc n : Thread nD τ).2.kind .vmem S2x8x8 .f32).view.ref.isScScratch = false}
    {hsrc : (mSrc : Memref sig .tc .vmem S2x8x8 .f32).view.WordExact} {hdst : (mDst : Memref sig .tc .vmem S2x8x8 .f32).view.WordExact}
    {hsem : DmaTarget.Typed .vmem (.dma cc0_scratch5.sem) (.remote (Dev.tc n : Thread nD τ) (mDst : Memref sig .tc .vmem S2x8x8 .f32) (.dma cc0_scratch4.sem) hsc)}
    {α : Type} {Q : α → sProp 𝕄} {k : PUnit → Prog (TpuEff nD τ sig (Elt F) Λ₀ .tc) α}
    (fs : Buf (Elt F) ((c : Thread nD τ).loc cc0_scratch1)) (fd : Buf (Elt F) ((peer c : Thread nD τ).loc cc0_scratch1))
    (hm : mlM.view.readAt (Elt F) r00.toLoadRect fs = maxSlot m c) (hl : mlM.view.readAt (Elt F) r01.toLoadRect fs = sumSlot m c) (W : Waits sig Unit) :
    iprop(cellInv EX (sched m) (K (c, 3)) (kcell (c, 3)) ∗ cellInv EX (sched m) (K (peer c, 4)) (kcell (peer c, 4))
        ∗ mSrcAt c fs ∗ mDstAt (peer c) fd ∗ owes (c : Thread nD τ) (O₁ c) W
        ∗ dutyTok EX (kcell (c, 3)) 0 () ∗ reached EX (kcell (c, 3)) 0
        ∗ dutyTok EX (kcell (peer c, 4)) 0 () ∗ reached EX (kcell (peer c, 4)) 0)
      ⊢ iprop(((cred (tallyAt (kcell (c, 3)) () NM) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mSrc (.remote (Dev.tc n : Thread nD τ) mDst (.dma cc0_scratch4.sem) hsc) (.dma cc0_scratch5.sem) hsrc hdst hsem) k) Q) := by
  subst hn
  unfold mSrcAt mDstAt
  have hamt : (mDst : Memref sig .tc .vmem S2x8x8 .f32).view.amount (.dma cc0_scratch5.sem) = NM := rfl
  have howe : O₁ c = O₂ c + tallyAt ((peer c : Thread nD τ), .dma cc0_scratch5.sem) () NM := rfl
  have hroute : τ.routes (c : Thread nD τ) (peer c : Thread nD τ) = true := by routes
  have hback : (mSrc.view.loc (c : Thread nD τ) ↦[mSrc.view.set]{fullShare} fs : sProp 𝕄) ⊢ (sched m).payload ((c : Thread nD τ), .dma cc0_scratch4.sem) 0 () := by
    refine BIBase.Entails.trans ?_ (Entails.of_eq (payload_mSent m c).symm)
    unfold mSentPay mSrcAt; iintro H; iexists fs; iexact H
  have hland : (mDst.view.loc (peer c : Thread nD τ) ↦[mDst.view.set]{fullShare} (mDst.view.write (Elt F) fd (mSrc.view.read (Elt F) fs) Finset.univ) : sProp 𝕄)
      ⊢ (sched m).payload ((peer c : Thread nD τ), .dma cc0_scratch5.sem) 0 () := by
    refine BIBase.Entails.trans ?_ (Entails.of_eq (payload_mRecv m (peer c)).symm)
    unfold mRecvPay mDstAt
    iintro H
    iexists (mDst.view.write (Elt F) fd (mSrc.view.read (Elt F) fs) Finset.univ)
    isplitr
    · ipureintro; exact ⟨by rw [read_land_m, peer_peer, hm], by rw [read_land_l, peer_peer, hl]⟩
    · iexact H
  exact Rounds.wp_send_pointsTo 𝒱₀ EX (sched m) (c : Thread nD τ) none (κ₁ := K (c, 3)) (κ₂ := K (peer c, 4)) (c' := (peer c : Thread nD τ))
    (src := mSrc) (dst := mDst) (hsc := hsc) (hsrc := hsrc) (hdst := hdst) (hsem := hsem) (k := k) (Q := Q)
    (r₁ := 0) (r₂ := 0) (d₁ := ()) (d₂ := ()) (fs := fs) (fd := fd) (defs := defs₀ (F := F))
    (duty_mem m c 3) (duty_mem m (peer c) 4) () () NM hamt (amount_at m c 3) (amount_at m (peer c) 4) (O₂ c) howe (W := W) hback hland (hr := hroute)

/-- The output's transfer. -/
theorem wp_send_out (c n : Dev nD) (hn : n = peer c) {hsc : (oDst : Memref sig (Dev.tc n : Thread nD τ).2.kind .vmem S8x8x64 .f32).view.ref.isScScratch = false}
    {hsrc : (oSrc : Memref sig .tc .vmem S8x8x64 .f32).view.WordExact} {hdst : (oDst : Memref sig .tc .vmem S8x8x64 .f32).view.WordExact}
    {hsem : DmaTarget.Typed .vmem (.dma cc0_scratch3.sem) (.remote (Dev.tc n : Thread nD τ) (oDst : Memref sig .tc .vmem S8x8x64 .f32) (.dma cc0_scratch2.sem) hsc)}
    {α : Type} {Q : α → sProp 𝕄} {k : PUnit → Prog (TpuEff nD τ sig (Elt F) Λ₀ .tc) α}
    (fs : Buf (Elt F) ((c : Thread nD τ).loc cc0_scratch0)) (fd : Buf (Elt F) ((peer c : Thread nD τ).loc cc0_scratch0))
    (ho : oM.view.readAt (Elt F) rO0.toLoadRect fs = outSlot m c) (W : Waits sig Unit) :
    iprop(cellInv EX (sched m) (K (c, 1)) (kcell (c, 1)) ∗ cellInv EX (sched m) (K (peer c, 2)) (kcell (peer c, 2))
        ∗ oSrcAt c fs ∗ oDstAt (peer c) fd ∗ owes (c : Thread nD τ) (O₂ c) W
        ∗ dutyTok EX (kcell (c, 1)) 0 () ∗ reached EX (kcell (c, 1)) 0
        ∗ dutyTok EX (kcell (peer c, 2)) 0 () ∗ reached EX (kcell (peer c, 2)) 0)
      ⊢ iprop(((cred (tallyAt (kcell (c, 1)) () NO) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oSrc (.remote (Dev.tc n : Thread nD τ) oDst (.dma cc0_scratch2.sem) hsc) (.dma cc0_scratch3.sem) hsrc hdst hsem) k) Q) := by
  subst hn
  unfold oSrcAt oDstAt
  have hamt : (oDst : Memref sig .tc .vmem S8x8x64 .f32).view.amount (.dma cc0_scratch3.sem) = NO := rfl
  have howe : O₂ c = 0 + tallyAt ((peer c : Thread nD τ), .dma cc0_scratch3.sem) () NO := (zero_add _).symm
  have hroute : τ.routes (c : Thread nD τ) (peer c : Thread nD τ) = true := by routes
  have hback : (oSrc.view.loc (c : Thread nD τ) ↦[oSrc.view.set]{fullShare} fs : sProp 𝕄) ⊢ (sched m).payload ((c : Thread nD τ), .dma cc0_scratch2.sem) 0 () := by
    refine BIBase.Entails.trans ?_ (Entails.of_eq (payload_oSent m c).symm)
    unfold oSentPay oSrcAt; iintro H; iexists fs; iexact H
  have hland : (oDst.view.loc (peer c : Thread nD τ) ↦[oDst.view.set]{fullShare} (oDst.view.write (Elt F) fd (oSrc.view.read (Elt F) fs) Finset.univ) : sProp 𝕄)
      ⊢ (sched m).payload ((peer c : Thread nD τ), .dma cc0_scratch3.sem) 0 () := by
    refine BIBase.Entails.trans ?_ (Entails.of_eq (payload_oRecv m (peer c)).symm)
    unfold oRecvPay oDstAt
    iintro H
    iexists (oDst.view.write (Elt F) fd (oSrc.view.read (Elt F) fs) Finset.univ)
    isplitr
    · ipureintro; rw [read_land_o, peer_peer, ho]
    · iexact H
  exact Rounds.wp_send_pointsTo 𝒱₀ EX (sched m) (c : Thread nD τ) none (κ₁ := K (c, 1)) (κ₂ := K (peer c, 2)) (c' := (peer c : Thread nD τ))
    (src := oSrc) (dst := oDst) (hsc := hsc) (hsrc := hsrc) (hdst := hdst) (hsem := hsem) (k := k) (Q := Q)
    (r₁ := 0) (r₂ := 0) (d₁ := ()) (d₂ := ()) (fs := fs) (fd := fd) (defs := defs₀ (F := F))
    (duty_mem m c 1) (duty_mem m (peer c) 2) () () NO hamt (amount_at m c 1) (amount_at m (peer c) 2) 0 howe (W := W) hback hland (hr := hroute)

/-! ## The run of the body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's program on the staging buffers. -/
abbrev prog : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 cc0_scratch4 cc0_scratch5

theorem fin_N (t : Fin cfg0.N) : t = t0_0 := fin_N0 t

def staged (c : Dev nD) : sProp 𝕄 :=
  iprop((∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPre (c : Dev nD) : sProp 𝕄 :=
  iprop(((ghost m K c ∗ (cred (tallyAt (kcell (c, 0)) () 1) ∗ cred (tallyAt (kcell (c, 2)) () NO) ∗ cred (tallyAt (kcell (c, 4)) () NM)) ∗ levAts L lv) ∗ slots c)
    ∗ (dats m 0 c).owesAt () t0_0.castSucc ∗ staged m c)

def bodyPost (c : Dev nD) : sProp 𝕄 :=
  iprop(Φ₁ c ∗ (dats m 0 c).owesAt () t0_0.succ
    ∗ stg c cc0_stg0_0 (inQ m c) ∗ stg c cc0_stg1_0 (inK m c) ∗ stg c cc0_stg2_0 (inV m c) ∗ stg c cc0_stg3_0 (inB m c) ∗ stg c cc0_stg4_0 (inL m c)
    ∗ stg c cc0_stg5_0 (result m c))

set_option maxHeartbeats 4000000 in
/-- The body from `bodyPre` to `bodyPost`, one rule per effect, in the program's order. -/
theorem run_body (c : Dev nD) (Kt : PUnit → sProp 𝕄) :
    iprop(bodyPre m K c ∗ (bodyPost m c -∗ Kt ⟨⟩)) ⊢ wp frame (wpE (defs₀ (F := F)) 𝒱₀ c none) Set.univ (prog (F := F)) Kt := by
  simp only [prog, cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs slots staged
  iintro ⟨⟨⟨⟨⟨⟨⟨#I0, #I1, #I2, #I3, #I4⟩, #J0, #J2, #J4⟩, ⟨A0, A1, A2, A3, A4⟩, ⟨#R1, #R2, #R3, #R4, #RP0⟩, ⟨T0, T1, T2, T3, T4⟩⟩, ⟨C0, C2, C4⟩, #Hlev⟩,
      ⟨⟨%fo, HoS⟩, ⟨%fo', HoD⟩⟩, ⟨⟨%fm, HmS⟩, ⟨%fm', HmD⟩⟩⟩,
    Ho, ⟨%d0, %g0, %h0, HQ⟩, ⟨%d1, %g1, %h1, HK⟩, ⟨%d2, %g2, %h2, HV⟩, ⟨%d3, %g3, %h3, HB⟩, ⟨%d4, %g4, %h4, HL⟩, ⟨%d5, %g5, %h5, Hout⟩⟩, Hk⟩
  have e0 : g0 = inQ m c := by rw [h0]; unfold Dat.before; rw [if_pos (fetch0_0 t0_0)]; rfl
  have e1 : g1 = inK m c := by rw [h1]; unfold Dat.before; rw [if_pos (fetch0_1 t0_0)]; rfl
  have e2 : g2 = inV m c := by rw [h2]; unfold Dat.before; rw [if_pos (fetch0_2 t0_0)]; rfl
  have e3 : g3 = inB m c := by rw [h3]; unfold Dat.before; rw [if_pos (fetch0_3 t0_0)]; rfl
  have e4 : g4 = inL m c := by rw [h4]; unfold Dat.before; rw [if_pos (fetch0_4 t0_0)]; rfl
  subst e0 e1 e2 e3 e4
  unfold Dat.owesAt Pipeline.owesWithin
  icases Ho with ⟨%W, %hW, HO⟩
  rw [show (dats m 0 c).owed t0_0.castSucc = O₀ c from rfl]
  simp only [dev1_peer c]
  -- the signal to the peer's barrier, with the two slots to be written and the two receive counters' marks
  iapply (Rounds.wp_signal 𝒱₀ EX (sched m) (c : Thread nD τ) none (dst := (peer c : Thread nD τ)) (κ := K (peer c, 0))
      (d := ()) (duty_mem m (peer c) 0) ((amount_at m (peer c) 0).trans (by decide)) () (O₁ c) rfl) $$ [HO T0 HoD HmD]
  · isplitr; · iexact J0
    isplitl [HO]; · iexact HO
    isplitl [T0]; · iexact T0
    isplitl [HoD HmD]
    · rw [payload_bar]; unfold barPay; rw [peer_peer]
      isplitl [HoD]; · iexists fo'; iexact HoD
      isplitl [HmD]; · iexists fm'; iexact HmD
      isplitr; · iexact R2
      iexact R4
    · iexact RP0
  iintro HO
  -- the barrier: the peer's slots
  iapply (Rounds.wp_wait_rest_token 𝒱₀ EX (sched m) (c : Thread nD τ) none (κ := K (c, 0))
      (wpE_semWait_eq 𝒱₀ (c : Thread nD τ) none Set.univ) (Set.mem_univ _) () (O := O₁ c) (W := W) (R := 0) (m := 0) (T := ∅)
      (by rw [expect_at m c 0]; decide)) $$ [C0 HO A0]
  · isplitr; · iexact I0
    isplitl [C0]; · iexact C0
    isplitl [HO]; · iexact HO
    isplitr; · iapply (mayWait_bar c); iexact Hlev
    iexact A0
  iintro ⟨HO, A0, -, Hpay⟩
  ihave Hp := (Entails.of_eq ((rest_at m c 0).trans (show pay m 0 c = barPay c from rfl))) $$ Hpay
  unfold barPay
  icases Hp with ⟨⟨%po, HpO⟩, ⟨%pm, HpM⟩, #RP2, #RP4⟩
  -- the operands
  iapply (wp_load 𝒱₀ (c : Thread nD τ) none Set.univ (m := Memref.whole cc0_stg3_0) (Finset.subset_univ _)) $$ HB; iintro HB
  rw [load_B]
  iapply (wp_load 𝒱₀ (c : Thread nD τ) none Set.univ (m := Memref.whole cc0_stg4_0) (Finset.subset_univ _)) $$ HL; iintro HL
  rw [load_L]
  iapply (wp_load 𝒱₀ (c : Thread nD τ) none Set.univ (m := Memref.whole cc0_stg1_0) (Finset.subset_univ _)) $$ HK; iintro HK
  rw [load_K]
  iapply (wp_load 𝒱₀ (c : Thread nD τ) none Set.univ (m := Memref.whole cc0_stg2_0) (Finset.subset_univ _)) $$ HV; iintro HV
  rw [load_V]
  iapply (wp_load 𝒱₀ (c : Thread nD τ) none Set.univ (m := Memref.whole cc0_stg0_0) (Finset.subset_univ _)) $$ HQ; iintro HQ
  rw [load_Q]
  -- the statistics into slot 0
  unfold mSrcAt
  iapply (wp_load 𝒱₀ (c : Thread nD τ) none Set.univ (m := mlM) load_r00) $$ HmS; iintro HmS
  iapply (wp_store 𝒱₀ (c : Thread nD τ) none Set.univ (m := mlM) (r := r00) (Mk := Finset.univ) store_r00) $$ HmS; iintro HmS
  iapply (wp_load 𝒱₀ (c : Thread nD τ) none Set.univ (m := mlM) load_r01) $$ HmS; iintro HmS
  iapply (wp_store 𝒱₀ (c : Thread nD τ) none Set.univ (m := mlM) (r := r01) (Mk := Finset.univ) store_r01) $$ HmS; iintro HmS
  -- their transfer
  iapply (wp_send_stats m K c _ (dev2_peer c) _ pm (read_store_m fm (maxSlot m c) (sumSlot m c)) (read_store_l _ (sumSlot m c)) (insert (SemLoc.reg barS, ()) W)) $$ [HmS HpM HO T3 T4]
  · isplitr; · iexact I3
    isplitr; · iexact J4
    isplitl [HmS]; · unfold mSrcAt; iexact HmS
    isplitl [HpM]; · iexact HpM
    isplitl [HO]; · iexact HO
    isplitl [T3]; · iexact T3
    isplitr; · iexact R3
    isplitl [T4]; · iexact T4
    iexact RP4
  iintro ⟨C3, HO⟩
  -- the output into slot 0
  unfold oSrcAt
  iapply (wp_load 𝒱₀ (c : Thread nD τ) none Set.univ (m := oM) load_rO0) $$ HoS; iintro HoS
  iapply (wp_store 𝒱₀ (c : Thread nD τ) none Set.univ (m := oM) (r := rO0) (Mk := Finset.univ) store_rO0) $$ HoS; iintro HoS
  -- its transfer
  iapply (wp_send_out m K c _ (dev3_peer c) _ po (read_store_o fo (outSlot m c)) (insert (SemLoc.reg barS, ()) W)) $$ [HoS HpO HO T1 T2]
  · isplitr; · iexact I1
    isplitr; · iexact J2
    isplitl [HoS]; · unfold oSrcAt; iexact HoS
    isplitl [HpO]; · iexact HpO
    isplitl [HO]; · iexact HO
    isplitl [T1]; · iexact T1
    isplitr; · iexact R1
    isplitl [T2]; · iexact T2
    iexact RP2
  iintro ⟨C1, HO⟩
  -- the four waits
  iapply (Rounds.wp_wait_rest_token 𝒱₀ EX (sched m) (c : Thread nD τ) none (κ := K (c, 1))
      (wpE_waitDma2_eq 𝒱₀ (c : Thread nD τ) none Set.univ) (Set.mem_univ _) () (O := 0) (W := (insert (SemLoc.reg barS, ()) W)) (R := 0) (m := 0) (T := ∅)
      (by rw [Nat.zero_add, expect_at m c 1]; rfl)) $$ [C1 HO A1]
  · isplitr; · iexact I1
    isplitl [C1]; · iexact C1
    isplitl [HO]; · iexact HO
    isplitr; · rw [MayWait_zero]; iempintro
    iexact A1
  iintro ⟨HO, A1, -, Hpay⟩
  ihave HoS := (Entails.of_eq ((rest_at m c 1).trans (show pay m 1 c = oSentPay c from rfl))) $$ Hpay
  iapply (Rounds.wp_wait_rest_token 𝒱₀ EX (sched m) (c : Thread nD τ) none (κ := K (c, 2))
      (wpE_waitDma2_eq 𝒱₀ (c : Thread nD τ) none Set.univ) (Set.mem_univ _) () (O := 0) (W := (insert (SemLoc.dma cc0_scratch2.sem, ()) (insert (SemLoc.reg barS, ()) W))) (R := 0) (m := 0) (T := ∅)
      (by rw [Nat.zero_add, expect_at m c 2]; rfl)) $$ [C2 HO A2]
  · isplitr; · iexact I2
    isplitl [C2]; · iexact C2
    isplitl [HO]; · iexact HO
    isplitr; · rw [MayWait_zero]; iempintro
    iexact A2
  iintro ⟨HO, A2, -, Hpay⟩
  ihave HoD := (Entails.of_eq ((rest_at m c 2).trans (show pay m 2 c = oRecvPay m c from rfl))) $$ Hpay
  iapply (Rounds.wp_wait_rest_token 𝒱₀ EX (sched m) (c : Thread nD τ) none (κ := K (c, 3))
      (wpE_waitDma2_eq 𝒱₀ (c : Thread nD τ) none Set.univ) (Set.mem_univ _) () (O := 0) (W := (insert (SemLoc.dma cc0_scratch3.sem, ()) (insert (SemLoc.dma cc0_scratch2.sem, ()) (insert (SemLoc.reg barS, ()) W)))) (R := 0) (m := 0) (T := ∅)
      (by rw [Nat.zero_add, expect_at m c 3]; rfl)) $$ [C3 HO A3]
  · isplitr; · iexact I3
    isplitl [C3]; · iexact C3
    isplitl [HO]; · iexact HO
    isplitr; · rw [MayWait_zero]; iempintro
    iexact A3
  iintro ⟨HO, A3, -, Hpay⟩
  ihave HmS := (Entails.of_eq ((rest_at m c 3).trans (show pay m 3 c = mSentPay c from rfl))) $$ Hpay
  iapply (Rounds.wp_wait_rest_token 𝒱₀ EX (sched m) (c : Thread nD τ) none (κ := K (c, 4))
      (wpE_waitDma2_eq 𝒱₀ (c : Thread nD τ) none Set.univ) (Set.mem_univ _) () (O := 0) (W := (insert (SemLoc.dma cc0_scratch4.sem, ()) (insert (SemLoc.dma cc0_scratch3.sem, ()) (insert (SemLoc.dma cc0_scratch2.sem, ()) (insert (SemLoc.reg barS, ()) W))))) (R := 0) (m := 0) (T := ∅)
      (by rw [Nat.zero_add, expect_at m c 4]; rfl)) $$ [C4 HO A4]
  · isplitr; · iexact I4
    isplitl [C4]; · iexact C4
    isplitl [HO]; · iexact HO
    isplitr; · rw [MayWait_zero]; iempintro
    iexact A4
  iintro ⟨HO, A4, -, Hpay⟩
  ihave HmD := (Entails.of_eq ((rest_at m c 4).trans (show pay m 4 c = mRecvPay m c from rfl))) $$ Hpay
  unfold oRecvPay mRecvPay
  icases HoD with ⟨%qo, %hqo, HoD⟩
  icases HmD with ⟨%qm, %hqm, HmD⟩
  imod (Rounds.cell_close EX (sched m) (Set.mem_univ (K (c, 0))) (fun h => h) (R := 0 + 1) (duties_later m (kcell (c, 0)))) $$ [A0] with Z0
  · isplitr; · iexact I0
    iexact A0
  imod (Rounds.cell_close EX (sched m) (Set.mem_univ (K (c, 1))) (fun h => h) (R := 0 + 1) (duties_later m (kcell (c, 1)))) $$ [A1] with Z1
  · isplitr; · iexact I1
    iexact A1
  imod (Rounds.cell_close EX (sched m) (Set.mem_univ (K (c, 2))) (fun h => h) (R := 0 + 1) (duties_later m (kcell (c, 2)))) $$ [A2] with Z2
  · isplitr; · iexact I2
    iexact A2
  imod (Rounds.cell_close EX (sched m) (Set.mem_univ (K (c, 3))) (fun h => h) (R := 0 + 1) (duties_later m (kcell (c, 3)))) $$ [A3] with Z3
  · isplitr; · iexact I3
    iexact A3
  imod (Rounds.cell_close EX (sched m) (Set.mem_univ (K (c, 4))) (fun h => h) (R := 0 + 1) (duties_later m (kcell (c, 4)))) $$ [A4] with Z4
  · isplitr; · iexact I4
    iexact A4
  -- the peer's values, and the result
  unfold oDstAt mDstAt
  iapply (wp_load 𝒱₀ (c : Thread nD τ) none Set.univ (m := oM) load_rO1) $$ HoD; iintro HoD
  rw [hqo]
  iapply (wp_load 𝒱₀ (c : Thread nD τ) none Set.univ (m := mlM) load_r10) $$ HmD; iintro HmD
  rw [hqm.1]
  iapply (wp_load 𝒱₀ (c : Thread nD τ) none Set.univ (m := mlM) load_r11) $$ HmD; iintro HmD
  rw [hqm.2]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S8x1x8x64) ![0, 0, 0, 0] S8x1x8x64.size inb_S8x1x8x64_S8x1x8x64_0_0_0_0) (Mk := Finset.univ) (Finset.subset_univ _)) $$ Hout; iintro Hout
  rw [store_out, wp_ret]; imodintro
  iapply Hk
  unfold bodyPost Φ₁ slots Dat.owesAt Pipeline.owesWithin
  rw [show (dats m 0 c).owed t0_0.succ = 0 from rfl]
  isplitl [HoS HoD HmS HmD Z0 Z1 Z2 Z3 Z4]
  · isplitl [HoS HoD HmS HmD]
    · isplitl [HoS HoD]
      · isplitl [HoS]; · unfold oSentPay; iexact HoS
        iexists qo; unfold oDstAt; iexact HoD
      · isplitl [HmS]; · unfold mSentPay; iexact HmS
        iexists qm; unfold mDstAt; iexact HmD
    isplitl [Z0]; · iexact Z0
    isplitl [Z1]; · iexact Z1
    isplitl [Z2]; · iexact Z2
    isplitl [Z3]; · iexact Z3
    iexact Z4
  isplitl [HO]
  · iexists _
    isplitr
    rotate_left
    · iexact HO
    · ipureintro; exact fun _ _ => Or.inl trivial
  isplitl [HQ]
  · iexists _
    isplitr
    · ipureintro; rfl
    · iexact HQ
  isplitl [HK]
  · iexists _
    isplitr
    · ipureintro; rfl
    · iexact HK
  isplitl [HV]
  · iexists _
    isplitr
    · ipureintro; rfl
    · iexact HV
  isplitl [HB]
  · iexists _
    isplitr
    · ipureintro; rfl
    · iexact HB
  isplitl [HL]
  · iexists _
    isplitr
    · ipureintro; rfl
    · iexact HL
  iexists _
  isplitr
  · ipureintro; rfl
  · iexact Hout

end Body

end Cert.KernelIdeal.Exchange

end
-- ==== Proof.Launch.lean ====
/-
# 01_k — `Launch`: all sixteen devices at once

The body's obligation, the counters put under invariants for all devices in one step, each device's credits, and the run
of `@main` from any memory, stated for any float values.
-/
module

public import proofs.«01_k».proof.Proof.Body
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem six_windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A staging buffer that is owned whole is its one points-to. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  simp only [owns, Memref.view_whole, View.set_whole, View.read_whole]

def stepPre (c : Dev nD) : sProp 𝕄 := iprop(Φ₀ m c ∗ (dats m 0 c).owesAt () t0_0.castSucc ∗ staged m c)

theorem body_obligation (c : Dev nD) : BodyObligation (dats (F := F) m 0 c) (defs₀ (F := F)) 𝒱₀ () Set.univ := fun t => by
  rw [fin_N t, six_windows, six_windows]
  simp only [owns_stg]
  show stepPre m c ⊢ wp frame (wpE (defs₀ (F := F)) 𝒱₀ c none) Set.univ (prog (F := F)) (fun _ => bodyPost m c)
  unfold stepPre Φ₀ start
  iintro ⟨⟨⟨⟨%K, Hg⟩, Hc, Hl⟩, Hs⟩, Ho, Hst⟩
  iapply (run_body m K c fun _ => bodyPost m c)
  unfold bodyPre
  isplitl
  · isplitl [Hg Hc Hl Hs]
    · isplitl [Hg Hc Hl]
      · isplitl [Hg]; · iexact Hg
        isplitl [Hc]; · iexact Hc
        iexact Hl
      iexact Hs
    isplitl [Ho]; · iexact Ho
    iexact Hst
  · iintro H; iexact H

/-! ## The launch -/

theorem ownSemFacts : Pipeline.OwnSemFacts cfg0.spec osem := by decide

theorem share_full (c : Dev nD) (w : Fin cfg0.W) : (dats m 0 c).share w = fullShare := by unfold Dat.share; split <;> rfl

theorem kcell_injective : Function.Injective (kcell : Dev nD × Fin 5 → GSem nD τ sig) := fun a b h =>
  Prod.ext (congrArg (fun g : GSem nD τ sig => g.1.1) h) (csem_injective (congrArg Prod.snd h))

/-- All counters; and their duties, one each. -/
def allCells : Finset (GSem nD τ sig) := Finset.univ.map ⟨kcell, kcell_injective⟩
abbrev tokOf (ck : Dev nD × Fin 5) : GSem nD τ sig × ℕ × Unit := (kcell ck, 0, ())
theorem tokOf_injective : Function.Injective (tokOf : Dev nD × Fin 5 → GSem nD τ sig × ℕ × Unit) := fun _ _ h => kcell_injective (congrArg Prod.fst h)
def allToks : Finset (GSem nD τ sig × ℕ × Unit) := Finset.univ.map ⟨tokOf, tokOf_injective⟩

def u₀ : UU := (initOf (Pipeline.cells cfgs cellOf_inj) (Pipeline.launchToks cfgs cellOf_inj), initOf allCells allToks)

/-- A device's share at launch: its counters' states, ends, marks and duties. -/
def G (c : Dev nD) : sProp 𝕄 :=
  iprop((bigSep Finset.univ fun k : Fin 5 => roundState EX (sched m) (kcell (c, k)) 0)
    ∗ (bigSep Finset.univ fun k : Fin 5 => atPos EX (kcell (c, k)) 0 ∅ 0) ∗ (bigSep Finset.univ fun k : Fin 5 => reached EX (kcell (c, k)) 0)
    ∗ bigSep Finset.univ fun k : Fin 5 => dutyTok EX (kcell (c, k)) 0 ())
def G' (c : Dev nD) : sProp 𝕄 := iprop(∃ K, ghost m K c)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem over_cells (Φ : GSem nD τ sig → sProp 𝕄) :
    bigSep allCells Φ = bigSep Finset.univ fun c : Dev nD => bigSep Finset.univ fun k : Fin 5 => Φ (kcell (c, k)) := by
  unfold allCells; rw [bigSep_map, bigSep_univ_prod]; rfl
theorem over_toks (Φ : GSem nD τ sig × ℕ × Unit → sProp 𝕄) :
    bigSep allToks Φ = bigSep Finset.univ fun c : Dev nD => bigSep Finset.univ fun k : Fin 5 => Φ (kcell (c, k), 0, ()) := by
  unfold allToks; rw [bigSep_map, bigSep_univ_prod]; rfl

theorem fund : BI.own (EX (initOf allCells allToks)) ⊢ (|==> bigSep Finset.univ (G m) : sProp 𝕄) := by
  iintro HX
  imod (Rounds.fund EX (sched m) allCells allToks) $$ HX with ⟨Hst, Hr, Hat, Htok⟩
  imodintro
  ihave H1 := (Entails.of_eq (over_cells fun g => roundState EX (sched m) g 0)) $$ Hst
  ihave H2 := (Entails.of_eq (over_cells fun g => atPos EX g 0 ∅ 0)) $$ Hat
  ihave H3 := (Entails.of_eq (over_cells fun g => reached EX g 0)) $$ Hr
  ihave H4 := (Entails.of_eq (over_toks fun x => dutyTok EX x.1 x.2.1 x.2.2)) $$ Htok
  unfold G; simp only [bigSep_sep']
  isplitl [H1]; · iexact H1
  isplitl [H2]; · iexact H2
  isplitl [H3]; · iexact H3
  iexact H4

/-- The four own semaphores, and the barrier, which is the device's one unscoped semaphore. -/
theorem ownSems_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0) := by
  rw [Pipeline.ownSems0_eq_of_list c osem [0, 1, 2, 3] (by decide) (by decide)]; rfl
theorem barSem_eq (c : Dev nD) : (unscopedSems0 c : sProp 𝕄) = semVal (kcell (c, 0)) 0 := by
  unfold unscopedSems0; rw [bigSep_eq_bigSepL_of_eq [SemLoc.reg barS] (by decide) (by decide)]; rfl

theorem all_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems_eq, barSem_eq, five]
  iintro ⟨H, HB⟩
  isplitl [HB]; · iexact HB
  iexact H

/-- A device's counters under invariants. -/
theorem counters_alloc (c : Dev nD) :
    iprop((bigSep Finset.univ fun k : Fin 5 => semVal (kcell (c, k)) 0) ∗ bigSep Finset.univ fun k : Fin 5 => roundState EX (sched m) (kcell (c, k)) 0)
      ⊢ (|={Set.univ}=> bigSep Finset.univ fun k => iprop(∃ κ : ℕ, cellInv EX (sched m) κ (kcell (c, k))) : sProp 𝕄) := by
  rw [← bigSep_sep']
  exact (bigSep_mono fun k _ => (Rounds.body_intro EX (sched m) (kcell (c, k))).trans inv_alloc).trans (bigSep_fupd _ _)

/-- A device's share with its counters under invariants. -/
def G₁ (c : Dev nD) : sProp 𝕄 :=
  iprop((bigSep Finset.univ fun k => iprop(∃ κ : ℕ, cellInv EX (sched m) κ (kcell (c, k))))
    ∗ (bigSep Finset.univ fun k : Fin 5 => atPos EX (kcell (c, k)) 0 ∅ 0) ∗ (bigSep Finset.univ fun k : Fin 5 => reached EX (kcell (c, k)) 0)
    ∗ bigSep Finset.univ fun k : Fin 5 => dutyTok EX (kcell (c, k)) 0 ())

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  unfold G G₁
  iintro ⟨Hos, Hus, Hst, Hrest⟩
  ihave Hv := (all_zero (F := F) c) $$ [Hos Hus]
  · isplitl [Hos] <;> iassumption
  imod (counters_alloc m c) $$ [Hv Hst] with Hinv
  · isplitl [Hv] <;> iassumption
  imodintro
  isplitl [Hinv]; · iexact Hinv
  iexact Hrest

/-- What every device may read: all invariants and all marks. -/
def shared (K : Dev nD × Fin 5 → ℕ) : sProp 𝕄 :=
  iprop((bigSep Finset.univ fun ck : Dev nD × Fin 5 => cellInv EX (sched m) (K ck) (kcell ck)) ∗ bigSep Finset.univ fun ck : Dev nD × Fin 5 => reached EX (kcell ck) 0)
instance shared_persistent (K : Dev nD × Fin 5 → ℕ) : BI.Persistent (shared m K) := by unfold shared; infer_instance

theorem one_of (Φ : Dev nD × Fin 5 → sProp 𝕄) (ck : Dev nD × Fin 5) : bigSep Finset.univ Φ ⊢ Φ ck := bigSep_elim (Finset.mem_univ ck)
theorem shared_inv (K : Dev nD × Fin 5 → ℕ) (ck : Dev nD × Fin 5) : shared m K ⊢ cellInv EX (sched m) (K ck) (kcell ck) := by
  unfold shared; iintro ⟨H, -⟩
  iapply (one_of (Φ := fun ck : Dev nD × Fin 5 => (cellInv EX (sched m) (K ck) (kcell ck) : sProp 𝕄)) ck) $$ H
theorem shared_mark (K : Dev nD × Fin 5 → ℕ) (ck : Dev nD × Fin 5) : shared m K ⊢ reached EX (kcell ck) 0 := by
  unfold shared; iintro ⟨-, H⟩
  iapply (one_of (Φ := fun ck : Dev nD × Fin 5 => (reached EX (kcell ck) 0 : sProp 𝕄)) ck) $$ H

/-- The duties a device pays: its peer's barrier and receive counters, its own send counters. -/
def payToks (c : Dev nD) : sProp 𝕄 :=
  iprop(dutyTok EX (kcell (peer c, 0)) 0 () ∗ dutyTok EX (kcell (c, 1)) 0 () ∗ dutyTok EX (kcell (peer c, 2)) 0 () ∗ dutyTok EX (kcell (c, 3)) 0 ()
      ∗ dutyTok EX (kcell (peer c, 4)) 0 ())

/-- The duties dealt to those that pay them. -/
theorem toks_swap : (bigSep Finset.univ fun c : Dev nD => bigSep Finset.univ fun k : Fin 5 => (dutyTok EX (kcell (c, k)) 0 () : sProp 𝕄))
    ⊢ bigSep Finset.univ fun c : Dev nD => payToks c := by
  simp only [five]
  unfold payToks
  simp only [bigSep_sep']
  iintro ⟨H0, H1, H2, H3, H4⟩
  isplitl [H0]; · iapply (Entails.of_eq (bigSep_univ_equiv swap (fun c : Dev nD => (dutyTok EX (kcell (c, 0)) 0 () : sProp 𝕄)))) $$ H0
  isplitl [H1]; · iexact H1
  isplitl [H2]; · iapply (Entails.of_eq (bigSep_univ_equiv swap (fun c : Dev nD => (dutyTok EX (kcell (c, 2)) 0 () : sProp 𝕄)))) $$ H2
  isplitl [H3]; · iexact H3
  iapply (Entails.of_eq (bigSep_univ_equiv swap (fun c : Dev nD => (dutyTok EX (kcell (c, 4)) 0 () : sProp 𝕄)))) $$ H4

/-- One device's ghost state from the shared part and its own. -/
theorem ghost_of (K : Dev nD × Fin 5 → ℕ) (c : Dev nD) :
    iprop(shared m K ∗ (bigSep Finset.univ fun k : Fin 5 => atPos EX (kcell (c, k)) 0 ∅ 0) ∗ payToks c) ⊢ G' m c := by
  rw [five]
  unfold G' ghost invs payToks
  iintro ⟨#HS, Hat, Htok⟩
  iexists K
  isplitr
  · isplitr
    · isplitr; · iapply (shared_inv m K (c, 0)); iexact HS
      isplitr; · iapply (shared_inv m K (c, 1)); iexact HS
      isplitr; · iapply (shared_inv m K (c, 2)); iexact HS
      isplitr; · iapply (shared_inv m K (c, 3)); iexact HS
      iapply (shared_inv m K (c, 4)); iexact HS
    isplitr; · iapply (shared_inv m K (peer c, 0)); iexact HS
    isplitr; · iapply (shared_inv m K (peer c, 2)); iexact HS
    iapply (shared_inv m K (peer c, 4)); iexact HS
  isplitl [Hat]; · iexact Hat
  isplitr
  · isplitr; · iapply (shared_mark m K (c, 1)); iexact HS
    isplitr; · iapply (shared_mark m K (c, 2)); iexact HS
    isplitr; · iapply (shared_mark m K (c, 3)); iexact HS
    isplitr; · iapply (shared_mark m K (c, 4)); iexact HS
    iapply (shared_mark m K (peer c, 0)); iexact HS
  iexact Htok

theorem regroup : (bigSep Finset.univ fun c : Dev nD => G₁ m c) ⊢ bigSep Finset.univ (G' m) := by
  unfold G₁
  simp only [bigSep_sep']
  iintro ⟨HI, Hat, HR, Htok⟩
  ihave HI' := (Entails.of_eq (bigSep_univ_prod (fun ck : Dev nD × Fin 5 => iprop(∃ κ : ℕ, cellInv EX (sched m) κ (kcell ck)))).symm) $$ HI
  ihave HK := (BI.bigSep_exists_pi Finset.univ (fun (ck : Dev nD × Fin 5) (κ : ℕ) => (cellInv EX (sched m) κ (kcell ck) : sProp 𝕄))) $$ HI'
  icases HK with ⟨%K, HI⟩
  ihave HR' := (Entails.of_eq (bigSep_univ_prod (fun ck : Dev nD × Fin 5 => (reached EX (kcell ck) 0 : sProp 𝕄))).symm) $$ HR
  ihave Htk := (toks_swap (F := F)) $$ Htok
  iapply (show (bigSep Finset.univ fun c : Dev nD => iprop(shared m K ∗ (bigSep Finset.univ fun k : Fin 5 => atPos EX (kcell (c, k)) 0 ∅ 0) ∗ payToks c))
      ⊢ (bigSep Finset.univ (G' m) : sProp 𝕄) from bigSep_mono fun c _ => ghost_of m K c)
  simp only [bigSep_sep']
  isplitl [HI HR']
  · iapply (BI.bigSep_of_persistent Finset.univ (shared m K))
    unfold shared
    isplitl [HI]; · iexact HI
    iexact HR'
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

/-- Each device's credits: what its peer owes it. -/
theorem creds (c : Dev nD) :
    (Pipeline.launchCred O₀ c : sProp 𝕄)
      ⊢ iprop(cred (tallyAt (kcell (c, 0)) () 1) ∗ cred (tallyAt (kcell (c, 2)) () NO) ∗ cred (tallyAt (kcell (c, 4)) () NM)) := by
  rw [show (O₀ : Dev nD → CellTallies nD τ sig Unit) = fun d => O₁ d + tallyAt (((peer d).tc : Thread nD τ), csem 0) () 1 from rfl, Pipeline.launchCred_add,
    show (O₁ : Dev nD → CellTallies nD τ sig Unit)
      = fun d => tallyAt (((peer d).tc : Thread nD τ), csem 2) () NO + tallyAt (((peer d).tc : Thread nD τ), csem 4) () NM from rfl, Pipeline.launchCred_add]
  iintro ⟨⟨H2, H4⟩, H0⟩
  isplitl [H0]; · iapply (Pipeline.launchCred_tallyAt (csem 0) peer peer peer_peer peer_peer () 1 c) $$ H0
  isplitl [H2]; · iapply (Pipeline.launchCred_tallyAt (csem 2) peer peer peer_peer peer_peer () NO c) $$ H2
  iapply (Pipeline.launchCred_tallyAt (csem 4) peer peer peer_peer peer_peer () NM c) $$ H4

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iapply (slots_of_whole (F := F) c) $$ Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, barSem_eq]
  unfold Φ₁
  iintro ⟨Hr, HB, Hz⟩
  isplitl [HB]; · iexact HB
  isplitl [Hz]; · iexact Hz
  iapply (whole_of_slots (F := F) c) $$ Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- A device's arrays after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with all counters at zero, every weakly fair execution of `@main` on the sixteen devices ends, each
    device's arrays are as computed, and all counters are at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.Frames.lean ====
/-
# 01_k — `Frames`: the programs run, leave their arguments alone and end quiet
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.KernelIdeal.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments of every device are as they were. -/
def ArgsKept (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem argsKept_of_QC {r : PUnit × MemSt nD τ sig (Elt F)} (h : QC m r) : ArgsKept m r := fun c =>
  ⟨(h c (0 : Fin 6)).trans ((dats m 0 c).arrAt_in (0 : Fin 6) rfl _), (h c (1 : Fin 6)).trans ((dats m 0 c).arrAt_in (1 : Fin 6) rfl _),
    (h c (2 : Fin 6)).trans ((dats m 0 c).arrAt_in (2 : Fin 6) rfl _), (h c (3 : Fin 6)).trans ((dats m 0 c).arrAt_in (3 : Fin 6) rfl _),
    (h c (4 : Fin 6)).trans ((dats m 0 c).arrAt_in (4 : Fin 6) rfl _)⟩

/-- For any float values the kernel ends, its arguments kept and its counters at zero. -/
theorem quiet : θ_run defs (onTc (τ := τ) (main (F := F))) ⟨m, fun _ => 0, ρ⟩ (fun r => ArgsKept m r ∧ r.2.sem = fun _ => 0) :=
  (θ_run defs _ _).mono (fun _ h => ⟨argsKept_of_QC m h.1, h.2⟩) (run_main m ρ)

end Cert.KernelIdeal.Exchange

namespace Cert.Proof

open Idealize.ShloMosaic Idealize.SL.Sem

/-- The kernel's body table is the idealized program's: the two programs have the same text. -/
theorem bodies_eq : Cert.Kernel.defs₀ (F := Bits) = Cert.KernelIdeal.defs₀ (F := Bits) := by
  unfold Cert.Kernel.defs₀ Cert.KernelIdeal.defs₀
  refine congrArg (Defs.onTc (nD := 16) (τ := Cert.Kernel.τ) (sig := Cert.Kernel.sig) (Λ := Cert.Kernel.Λ₀)) ?_
  funext l a
  match l, a with
  | 0, (t, s) =>
    show Cert.Kernel.cc0_body _ _ _ _ _ _ _ _ _ _ _ _ _ _ _ _ _ _ _ _ = Cert.KernelIdeal.cc0_body _ _ _ _ _ _ _ _ _ _ _ _ _ _ _ _ _ _ _ _
    rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq

/-- The kernel as printed, from the run of the idealized program's text at the printed program's floats. -/
theorem quiet_kernel : Cert.quiescent_Kernel := fun m g _ => by
  rw [defs_eq]
  exact Cert.KernelIdeal.Exchange.quiet (F := Bits) m g
theorem quiet_kernelIdeal : Cert.quiescent_KernelIdeal := fun m g _ => Cert.KernelIdeal.Exchange.quiet (F := Ideal) m g
theorem quiet_referenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Weights.lean ====
/-
# 01_k — `Weights`: weighted sums over pages, in the extended reals

A softmax-weighted average over a paged cache is a quotient of two sums over pages `p` and slots `t`: the terms are a
count `n p`, the exponential of a score less some centre, and a value. The scores and the centre are real numbers, the
values any extended reals. This module has the facts about such sums that the kernel's merge of two halves and the
reference's softmax over blocks both come down to.
-/
module

public import Idealize.ShloMosaic.PureOps.Ideal
public import Idealize.ShloMosaic.Lib.Pointwise

@[expose] public section

noncomputable section

namespace Cert.Weights

open Idealize.ShloMosaic

/-! ## Real coefficients and extended sums -/

/-- A nonnegative real factor goes inside a finite sum of extended reals. -/
theorem coe_mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- A finite sum of nonnegative real coefficients times an extended real is the sum of the products. -/
theorem coe_sum_mul {ι : Type*} (s : Finset ι) (a : ι → ℝ) (ha : ∀ i, 0 ≤ a i) (x : EReal) :
    ((∑ i ∈ s, a i : ℝ) : EReal) * x = ∑ i ∈ s, (a i : EReal) * x := by
  classical
  induction s using Finset.induction_on with
  | empty => simp
  | insert i s hi ih =>
    rw [Finset.sum_insert hi, Finset.sum_insert hi, ← ih, EReal.coe_add]
    exact EReal.right_distrib_of_nonneg (EReal.coe_nonneg.mpr (ha i)) (EReal.coe_nonneg.mpr (Finset.sum_nonneg fun j _ => ha j))

/-- The coercion of a real sum is the sum of the coercions. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, ← ih, EReal.coe_add]

/-- Division by a positive real is multiplication by its inverse. -/
theorem div_coe (x : EReal) {r : ℝ} (hr : 0 < r) : Ideal.div x (r : EReal) = x * ((r⁻¹ : ℝ) : EReal) := by
  unfold Ideal.div
  rw [if_neg (by exact_mod_cast hr.ne'), EReal.coe_inv]

/-- A common positive real factor cancels from a quotient. -/
theorem div_scale (x : EReal) {r z : ℝ} (hr : 0 < r) (hz : 0 < z) :
    Ideal.div ((r : EReal) * x) ((r * z : ℝ) : EReal) = Ideal.div x (z : EReal) := by
  rw [div_coe _ (mul_pos hr hz), div_coe _ hz, mul_comm (r : EReal) x, mul_assoc, ← EReal.coe_mul,
    show r * (r * z)⁻¹ = z⁻¹ by field_simp]

/-- The maximum of a list of reals and lower infinities, started at lower infinity, is real once one of them is. -/
theorem fold_max_real {ι : Type*} (s : Finset ι) (f : ι → EReal) (htop : ∀ i ∈ s, f i ≠ ⊤) {i₀ : ι} (h₀ : i₀ ∈ s)
    (hb : f i₀ ≠ ⊥) : ∃ r : ℝ, s.fold max ⊥ f = (r : EReal) := by
  classical
  have hle : f i₀ ≤ s.fold max ⊥ f := by
    rw [Finset.le_fold_max]; exact Or.inr ⟨i₀, h₀, le_rfl⟩
  have hlt : s.fold max ⊥ f < ⊤ := by
    rw [Finset.fold_max_lt]
    exact ⟨bot_lt_top, fun i hi => lt_top_iff_ne_top.mpr (htop i hi)⟩
  refine ⟨(s.fold max ⊥ f).toReal, (EReal.coe_toReal hlt.ne ?_).symm⟩
  exact fun h => hb (le_bot_iff.mp (h ▸ hle))

/-! ## The weighted sum -/

variable {π τ : Type*} [Fintype π] [Fintype τ]

/-- The sum over pages `p` and slots `t` of `n p · exp (S p t − c) · v p t`. -/
def wsum (n : π → ℝ) (S : π → τ → ℝ) (v : π → τ → EReal) (c : ℝ) : EReal :=
  ∑ p, ∑ t, ((n p * Real.exp (S p t - c) : ℝ) : EReal) * v p t

/-- The weights' own sum. -/
def wtot (n : π → ℝ) (S : π → τ → ℝ) (c : ℝ) : ℝ := ∑ p, ∑ t, n p * Real.exp (S p t - c)

/-- The weights' own sum is the weighted sum of ones. -/
theorem wsum_one (n : π → ℝ) (S : π → τ → ℝ) (c : ℝ) : wsum n S (fun _ _ => 1) c = (wtot n S c : EReal) := by
  unfold wsum wtot
  rw [coe_sum]
  refine Finset.sum_congr rfl fun p _ => ?_
  rw [coe_sum]
  exact Finset.sum_congr rfl fun t _ => mul_one _

/-- Moving the centre from `c` to `c'` multiplies the sum by `exp (c − c')`. -/
theorem wsum_recenter (n : π → ℝ) (S : π → τ → ℝ) (v : π → τ → EReal) (c c' : ℝ) :
    (Real.exp (c - c') : EReal) * wsum n S v c = wsum n S v c' := by
  unfold wsum
  rw [coe_mul_sum _ (Real.exp_pos _).le]
  refine Finset.sum_congr rfl fun p _ => ?_
  rw [coe_mul_sum _ (Real.exp_pos _).le]
  refine Finset.sum_congr rfl fun t _ => ?_
  rw [← mul_assoc, ← EReal.coe_mul]
  congr 2
  rw [mul_left_comm, ← Real.exp_add]
  congr 2
  ring

/-- The same for the weights' own sum. -/
theorem wtot_recenter (n : π → ℝ) (S : π → τ → ℝ) (c c' : ℝ) : Real.exp (c - c') * wtot n S c = wtot n S c' := by
  have h := wsum_recenter n S (fun _ _ => 1) c c'
  rw [wsum_one, wsum_one, ← EReal.coe_mul] at h
  exact_mod_cast h

/-- The weights' own sum is positive as soon as one page is counted and there is a slot. -/
theorem wtot_pos [Nonempty τ] (n : π → ℝ) (hn : ∀ p, 0 ≤ n p) {p₀ : π} (h₀ : 0 < n p₀) (S : π → τ → ℝ) (c : ℝ) :
    0 < wtot n S c := by
  have hs : ∀ p, 0 ≤ ∑ t, n p * Real.exp (S p t - c) := fun p => Finset.sum_nonneg fun t _ => mul_nonneg (hn p) (Real.exp_pos _).le
  refine Finset.sum_pos' (fun p _ => hs p) ⟨p₀, Finset.mem_univ _, ?_⟩
  exact Finset.sum_pos (fun t _ => mul_pos h₀ (Real.exp_pos _)) Finset.univ_nonempty

/-- The weighted average does not depend on the centre. -/
theorem average_recenter (n : π → ℝ) (S : π → τ → ℝ) (v : π → τ → EReal) (c c' : ℝ) (hpos : 0 < wtot n S c) :
    Ideal.div (wsum n S v c') (wtot n S c' : EReal) = Ideal.div (wsum n S v c) (wtot n S c : EReal) := by
  rw [← wsum_recenter n S v c c', ← wtot_recenter n S c c']
  exact div_scale _ (Real.exp_pos _) hpos

/-- Pages counted once for every block that names them: the sum over pages is the sum over blocks. -/
theorem wsum_regroup {β : Type*} [Fintype β] [DecidableEq π] (l : β → ℝ) (hl : ∀ i, 0 ≤ l i) (g : β → π) (S : π → τ → ℝ)
    (v : π → τ → EReal) (c : ℝ) :
    wsum (fun p => ∑ i, if g i = p then l i else 0) S v c = wsum l (fun i => S (g i)) (fun i => v (g i)) c := by
  unfold wsum
  have hterm : ∀ p t, (((∑ i, if g i = p then l i else 0) * Real.exp (S p t - c) : ℝ) : EReal) * v p t
      = ∑ i, if g i = p then ((l i * Real.exp (S (g i) t - c) : ℝ) : EReal) * v (g i) t else 0 := fun p t => by
    rw [Finset.sum_mul, coe_sum_mul _ _ (fun i => mul_nonneg (by split <;> simp [hl]) (Real.exp_pos _).le)]
    refine Finset.sum_congr rfl fun i _ => ?_
    split
    · next h => rw [h]
    · simp
  simp only [hterm]
  have hswap : ∀ p, (∑ t, ∑ i, if g i = p then ((l i * Real.exp (S (g i) t - c) : ℝ) : EReal) * v (g i) t else 0)
      = ∑ i, if g i = p then ∑ t, ((l i * Real.exp (S (g i) t - c) : ℝ) : EReal) * v (g i) t else 0 := fun p => by
    rw [Finset.sum_comm]
    refine Finset.sum_congr rfl fun i _ => ?_
    split <;> simp
  simp only [hswap]
  rw [Finset.sum_comm]
  exact Finset.sum_congr rfl fun i _ => by simp

/-- The same for the weights' own sum. -/
theorem wtot_regroup {β : Type*} [Fintype β] [DecidableEq π] (l : β → ℝ) (hl : ∀ i, 0 ≤ l i) (g : β → π) (S : π → τ → ℝ) (c : ℝ) :
    wtot (fun p => ∑ i, if g i = p then l i else 0) S c = wtot l (fun i => S (g i)) c := by
  have h := wsum_regroup l hl g S (fun _ _ => 1) c
  rw [wsum_one, wsum_one] at h
  exact_mod_cast h

/-- A weighted average written with normalized weights: dividing every weight first is dividing the sum. -/
theorem sum_normalized {κ : Type*} [Fintype κ] (e : κ → ℝ) (he : ∀ k, 0 ≤ e k) (v : κ → EReal) {z : ℝ} (hz : 0 < z) :
    ∑ k, v k * Ideal.div (e k : EReal) (z : EReal) = Ideal.div (∑ k, (e k : EReal) * v k) (z : EReal) := by
  rw [div_coe _ hz, mul_comm, coe_mul_sum _ (inv_pos.mpr hz).le]
  refine Finset.sum_congr rfl fun k _ => ?_
  rw [div_coe _ hz, mul_comm, mul_right_comm, mul_comm]

/-! ## Two halves -/

/-- One side's sum with its own centre, brought to another centre. -/
theorem side (n : π → ℝ) (S : π → τ → ℝ) (v : π → τ → EReal) (c c' : ℝ) :
    wsum n S v c * Ideal.exp ((c : EReal) - (c' : EReal)) = wsum n S v c' := by
  rw [← EReal.coe_sub, show Ideal.exp ((c - c' : ℝ) : EReal) = (Real.exp (c - c') : EReal) from rfl, mul_comm, wsum_recenter]

/-- The merge of two halves, each summed around its own centre, is the average over both. -/
theorem merge {ρ : Type*} [Fintype ρ] (n : π → ℝ) (S : π → τ → ℝ) (v : π → τ → EReal) (c : ℝ)
    (n' : ρ → ℝ) (S' : ρ → τ → ℝ) (v' : ρ → τ → EReal) (c' : ℝ) :
    Ideal.div
      (wsum n S v c * Ideal.exp ((c : EReal) - max (c : EReal) (c' : EReal))
        + wsum n' S' v' c' * Ideal.exp ((c' : EReal) - max (c : EReal) (c' : EReal)))
      ((wtot n S c : EReal) * Ideal.exp ((c : EReal) - max (c : EReal) (c' : EReal))
        + (wtot n' S' c' : EReal) * Ideal.exp ((c' : EReal) - max (c : EReal) (c' : EReal)))
    = Ideal.div (wsum n S v (max c c') + wsum n' S' v' (max c c')) ((wtot n S (max c c') + wtot n' S' (max c c') : ℝ) : EReal) := by
  have hm : max (c : EReal) (c' : EReal) = ((max c c' : ℝ) : EReal) := (EReal.coe_strictMono.monotone.map_max).symm
  rw [hm, ← wsum_one n, ← wsum_one n', side, side, side, side, wsum_one, wsum_one, EReal.coe_add]

end Cert.Weights
-- ==== Proof.HalfValue.lean ====
/-
# 01_k — `HalfValue`: what one device computes from its half of the pages

The device's counts, running maximum, weights, sum and weighted output, read at an index: counts are numbers of live
blocks naming a page, and the sum and the output are the weighted sums of `Weights` around a real centre, the device's
own maximum.
-/
module

public import proofs.«01_k».proof.Proof.Exchange
public import proofs.«01_k».proof.Proof.Weights
public import Idealize.ShloMosaic.Lib.StableHlo.Predicate

@[expose] public section

set_option maxRecDepth 16384

noncomputable section

namespace Cert.KernelIdeal.HalfValue

open Idealize Idealize.ShloMosaic Cert.KernelIdeal Cert.KernelIdeal.Gen Cert.Weights

/-! ## Constants -/

/-- The scale's pattern is a real number. -/
theorem eighth_real : ∃ r : ℝ, Ideal.ofBits .f32 0x3E000000#32 = (r : EReal) := ⟨1 / 8, by
  simp [Ideal.ofBits, Ideal.ieee, -EReal.coe_mul]; norm_num⟩

/-- The masked score's pattern is a real number. -/
theorem masked_real : ∃ r : ℝ, Ideal.ofBits .f32 0xF149F2CA#32 = (r : EReal) := ⟨_, by
  simp [Ideal.ofBits, Ideal.ieee, -EReal.coe_mul, -EReal.coe_neg]; rfl⟩

/-- The pattern a maximum starts from is lower infinity. -/
theorem lowest : Ideal.ofBits .f32 0xFF800000#32 = (⊥ : EReal) := by
  simp [Ideal.ofBits, Ideal.ieee]

/-! ## Sums over keys -/

/-- A sum over the 1024 keys of 64 pages, page by page. -/
theorem sum_keys {M : Type*} [AddCommMonoid M] (f : Fin 64 → Fin 16 → M) :
    ∑ k : Fin 1024, f ⟨k.val / 16, by omega⟩ ⟨k.val % 16, by omega⟩ = ∑ p, ∑ t, f p t := by
  rw [Fin.sum_univ_tiles 64 16 rfl]
  refine Finset.sum_congr rfl fun p _ => Finset.sum_congr rfl fun t _ => ?_
  congr 1 <;> exact Fin.ext (by dsimp only; omega)

/-- A sum over the block diagonal: only the keys of head `h` are left. -/
theorem sum_diagonal (h : Fin 8) (f : Fin 1024 → Fin 8 → EReal) (g : ℕ → EReal) (hg : ∀ j < 8, g j = if j = h.val then 1 else 0)
    (w : Fin 1024 → EReal) :
    ∑ x : Fin 8192, w ⟨x.val % 1024, by omega⟩ * g (x.val / 1024) * f ⟨x.val % 1024, by omega⟩ ⟨x.val / 1024, by omega⟩
      = ∑ k, w k * f k h := by
  rw [Fin.sum_univ_tiles 8 1024 rfl, Finset.sum_eq_single h]
  · refine Finset.sum_congr rfl fun k _ => ?_
    have e1 : (h.val * 1024 + k.val) / 1024 = h.val := by omega
    have e2 : (h.val * 1024 + k.val) % 1024 = k.val := by omega
    simp only [e1, e2, hg h.val h.isLt, if_true, mul_one]
  · intro j _ hj
    refine Finset.sum_eq_zero fun k _ => ?_
    have e1 : (j.val * 1024 + k.val) / 1024 = j.val := by omega
    simp only [e1, hg j.val j.isLt, if_neg (fun e => hj (Fin.ext e)), mul_zero, zero_mul]
  · exact fun hh => absurd (Finset.mem_univ _) hh

/-! ## Counts -/

/-- The first page of the half of the pool that device `c` holds. -/
def off (c : Dev nD) : ℕ := 64 * (c.val / 4 % 2)

/-- Device `c`'s word for its first page. -/
theorem off_word (c : Dev nD) :
    Scalar.muli (Scalar.remsi (Scalar.divsi (Dev.word c) 4#32) 2#32) 64#32 = BitVec.ofNat 32 (off c) := by
  revert c; decide

/-- Block `i` of row `b` is live. -/
def live (len : IVec S8 32) (b : Fin 8) (i : Fin 64) : Prop :=
  IntOp.cmpi .slt (BitVec.ofNat 32 i.val) (len (ix1 b)) = 1#1

instance (len : IVec S8 32) (b : Fin 8) (i : Fin 64) : Decidable (live len b i) := by unfold live; infer_instance

/-- A bit, widened and made a float, is one or zero. -/
theorem bit_value (x : BitVec 1) : FloatOps.sitofp (F := Ideal) .f32 (BitVec.setWidth 32 x) = ((if x = 1#1 then 1 else 0 : ℝ) : EReal) := by
  rcases BitVec.eq_zero_or_eq_one x with rfl | rfl
  · rw [if_neg (by decide)]; show (((BitVec.setWidth 32 0#1).toInt : ℝ) : EReal) = _; simp
  · rw [if_pos rfl]; show (((BitVec.setWidth 32 1#1).toInt : ℝ) : EReal) = _; simp

/-- The conjunction of two bits is set when both are. -/
theorem andi_one (x y : BitVec 1) : IntOp.andi x y = 1#1 ↔ x = 1#1 ∧ y = 1#1 := by
  rcases BitVec.eq_zero_or_eq_one x with rfl | rfl <;> rcases BitVec.eq_zero_or_eq_one y with rfl | rfl <;> decide

/-- How many live blocks of row `b` name page `off c + p`. -/
def cnt (c : Dev nD) (bt : IVec S8x64 32) (len : IVec S8 32) (b : Fin 8) (p : Fin 64) : ℝ :=
  ∑ i : Fin 64, if bt (ix2 b i) = BitVec.ofNat 32 (off c + p.val) ∧ live len b i then 1 else 0

theorem cnt_nonneg (c : Dev nD) (bt : IVec S8x64 32) (len : IVec S8 32) (b : Fin 8) (p : Fin 64) : 0 ≤ cnt c bt len b p :=
  Finset.sum_nonneg fun i _ => by split <;> simp

/-- The kernel's counts at an index. -/
theorem counts_at (c : Dev nD) (bt : IVec S8x64 32) (len : IVec S8 32) (b : Fin 8) (p : Fin 64) :
    k0_pay2 (F := Ideal) c bt len (ix3 b p 0) = (cnt c bt len b p : EReal) := by
  pointwise [k0_pay2]
  unfold cnt
  rw [coe_sum]
  refine Finset.sum_congr rfl fun i _ => ?_
  rw [off_word, bit_value]
  congr 1
  have e : IntOp.andi (IntOp.cmpi .eq (IntOp.subi (bt (ix2 b i)) (BitVec.ofNat 32 (off c))) (BitVec.ofNat 32 p.val))
        (IntOp.cmpi .slt (BitVec.ofNat 32 i.val) (len (ix1 b))) = 1#1
      ↔ bt (ix2 b i) = BitVec.ofNat 32 (off c + p.val) ∧ live len b i := by
    rw [andi_one, StableHlo.Predicate.cmpi_eq_iff]
    refine and_congr ?_ Iff.rfl
    show bt (ix2 b i) - BitVec.ofNat 32 (off c) = BitVec.ofNat 32 p.val ↔ _
    rw [BitVec.ofNat_add]
    constructor
    · intro h; rw [← h, BitVec.add_comm]; exact (BitVec.sub_add_cancel _ _).symm
    · intro h; rw [h, BitVec.add_comm]; exact BitVec.add_sub_cancel _ _
  simp only [e]

/-! ## Scores, weights, sums -/

section Half

variable (n : FVec Ideal S8x64x1 .f32) (K V : FVec Ideal S64x16x8x64 .bf16) (Q : FVec Ideal S8x1x8x64 .bf16)
variable (b h : Fin 8) (ν : Fin 64 → ℝ) (s : Fin 64 → Fin 16 → ℝ)

/-- A page's masked score is real. -/
theorem score_real (hs : ∀ p t, (∑ x, K (ix4 p t h x) * Q (ix4 b 0 h x)) * Ideal.ofBits .f32 0x3E000000#32 = (s p t : EReal))
    (k : Fin 1024) : ∃ r : ℝ, k0_pay5 (F := Ideal) n K Q (ix3 b h k) = (r : EReal) := by
  pointwise [k0_pay5, k0_pay3]
  split
  · exact ⟨_, hs _ _⟩
  · exact masked_real

/-- A counted page's score is not masked. -/
theorem score_counted (hs : ∀ p t, (∑ x, K (ix4 p t h x) * Q (ix4 b 0 h x)) * Ideal.ofBits .f32 0x3E000000#32 = (s p t : EReal))
    (k : Fin 1024) (hk : 0 < n (ix3 b ⟨k.val / 16, by omega⟩ 0)) :
    k0_pay5 (F := Ideal) n K Q (ix3 b h k) = (s ⟨k.val / 16, by omega⟩ ⟨k.val % 16, by omega⟩ : EReal) := by
  pointwise [k0_pay5, k0_pay3]
  rw [if_pos hk]
  exact hs _ _

/-- The device's maximum is real. -/
theorem max_real (hs : ∀ p t, (∑ x, K (ix4 p t h x) * Q (ix4 b 0 h x)) * Ideal.ofBits .f32 0x3E000000#32 = (s p t : EReal)) :
    ∃ μ : ℝ, k0_pay6 (F := Ideal) n K Q (ix2 b h) = (μ : EReal) := by
  pointwise [k0_pay6]
  rw [lowest]
  refine fold_max_real _ _ (fun k _ => ?_) (Finset.mem_univ (0 : Fin 1024)) ?_
  · obtain ⟨r, hr⟩ := score_real n K Q b h s hs k
    rw [hr]; exact EReal.coe_ne_top r
  · obtain ⟨r, hr⟩ := score_real n K Q b h s hs 0
    rw [hr]; exact EReal.coe_ne_bot r

variable (hn : ∀ p, n (ix3 b p 0) = (ν p : EReal)) (hν : ∀ p, 0 ≤ ν p)
  (hs : ∀ p t, (∑ x, K (ix4 p t h x) * Q (ix4 b 0 h x)) * Ideal.ofBits .f32 0x3E000000#32 = (s p t : EReal))
  (μ : ℝ) (hμ : k0_pay6 (F := Ideal) n K Q (ix2 b h) = (μ : EReal))

include hn hν hs hμ

/-- A key's weight: its page's count times the exponential of its score less the maximum. -/
theorem weight_at (k : Fin 1024) : k0_pay7 (F := Ideal) n K Q (ix3 b h k)
    = ((ν ⟨k.val / 16, by omega⟩ * Real.exp (s ⟨k.val / 16, by omega⟩ ⟨k.val % 16, by omega⟩ - μ) : ℝ) : EReal) := by
  pointwise [k0_pay7, k0_pay3]
  rw [hμ]
  rcases (hν ⟨k.val / 16, by omega⟩).lt_or_eq with hp | hz
  · rw [score_counted n K Q b h s hs k (by rw [hn]; exact EReal.coe_pos.mpr hp), hn, ← EReal.coe_sub, EReal.coe_mul]
    rfl
  · rw [hn, ← hz]
    simp

/-- The device's sum is the weights' total around its maximum. -/
theorem sum_at : k0_pay8 (F := Ideal) n K Q (ix2 b h) = (wtot ν s μ : EReal) := by
  pointwise [k0_pay8]
  rw [Finset.sum_congr rfl fun k _ => weight_at n K Q b h ν s hn hν hs μ hμ k, ← coe_sum,
    sum_keys fun p t => ν p * Real.exp (s p t - μ)]
  rfl

/-- The device's output is the weighted sum of its values around its maximum. -/
theorem out_at (d : Fin 64) : k0_pay11 (F := Ideal) (k0_pay4 V) (k0_pay7 n K Q) (ix3 b h d)
    = wsum ν s (fun p t => V (ix4 p t h d)) μ := by
  pointwise [k0_pay11, k0_pay4]
  rw [sum_diagonal h (fun k j => V (ix4 ⟨k.val / 16, by omega⟩ ⟨k.val % 16, by omega⟩ j d))
    (fun j => FloatOps.sitofp (F := Ideal) .f32 (BitVec.setWidth 32 (IntOp.cmpi .eq (BitVec.ofNat 32 h.val) (BitVec.ofNat 32 j))))
    ?_ (fun k => k0_pay7 n K Q (ix3 b h k))]
  · rw [Finset.sum_congr rfl fun k _ => by rw [weight_at n K Q b h ν s hn hν hs μ hμ k]]
    exact sum_keys fun p t => ((ν p * Real.exp (s p t - μ) : ℝ) : EReal) * V (ix4 p t h d)
  · intro j hj
    rw [bit_value]
    have e : IntOp.cmpi .eq (BitVec.ofNat 32 h.val) (BitVec.ofNat 32 j) = 1#1 ↔ j = h.val := by
      rw [StableHlo.Predicate.cmpi_eq_iff]
      constructor
      · intro e
        have := congrArg BitVec.toNat e
        simp only [BitVec.toNat_ofNat] at this
        omega
      · rintro rfl; rfl
    simp only [e]
    split <;> simp

end Half

/-- The merged result at an index. -/
theorem merged_at (o : FVec Ideal S1x8x8x64 .f32) (m l : FVec Ideal S8x8 .f32) (v : FVec Ideal S8x8x64 .f32)
    (pm pl : FVec Ideal S1x1x8x8 .f32) (b h : Fin 8) (d : Fin 64) :
    k0_pay1 (F := Ideal) (k0_pay13 o) (k0_pay17 m pm) (k0_pay18 m l pm pl) (k0_pay19 m v pm) (ix4 b 0 h d)
      = Ideal.div
      (v (ix3 b h d) * Ideal.exp (m (ix2 b h) - max (m (ix2 b h)) (pm (ix4 0 0 b h))) +
        o (ix4 0 b h d) * Ideal.exp (pm (ix4 0 0 b h) - max (m (ix2 b h)) (pm (ix4 0 0 b h))))
      (l (ix2 b h) * Ideal.exp (m (ix2 b h) - max (m (ix2 b h)) (pm (ix4 0 0 b h))) +
        pl (ix4 0 0 b h) * Ideal.exp (pm (ix4 0 0 b h) - max (m (ix2 b h)) (pm (ix4 0 0 b h)))) := by
  pointwise [k0_pay1, k0_pay13, k0_pay17, k0_pay18, k0_pay19, k0_pay16, k0_pay15, k0_pay14]

/-- The slots sent to the peer hold the device's maximum, sum and output. -/
theorem slots_at (n : FVec Ideal S8x64x1 .f32) (K : FVec Ideal S64x16x8x64 .bf16) (Q : FVec Ideal S8x1x8x64 .bf16)
    (l : FVec Ideal S8x8 .f32) (v : FVec Ideal S1024x8x64 .bf16) (w : FVec Ideal S8x8x1024 .f32) (b h : Fin 8) (d : Fin 64) :
    k0_pay9 (F := Ideal) n K Q (ix4 0 0 b h) = k0_pay6 n K Q (ix2 b h) ∧ k0_pay10 (F := Ideal) l (ix4 0 0 b h) = l (ix2 b h)
      ∧ k0_pay12 (F := Ideal) v w (ix4 0 b h d) = k0_pay11 v w (ix3 b h d) := by
  refine ⟨?_, ?_, ?_⟩
  · pointwise [k0_pay9]
  · pointwise [k0_pay10]
  · pointwise [k0_pay12]

end Cert.KernelIdeal.HalfValue
-- ==== Proof.Precondition.lean ====
/-
# 01_k — `Precondition`: what the precondition says of one device's arrays
-/
module

public import proofs.«01_k».proof.Pre_live_pages_in_pool_KernelIdeal
public import proofs.«01_k».proof.Pre_live_pages_in_pool_ReferenceIdeal
public import proofs.«01_k».proof.Proof.HalfValue
public import Idealize.ShloMosaic.Lib.ReduceAll

@[expose] public section

set_option maxRecDepth 16384

noncomputable section

namespace Cert.Precondition

open Idealize Idealize.ShloMosaic
open Cert.KernelIdeal.HalfValue (live andi_one)

theorem kernelFacts : Cert.Pre_live_pages_in_pool_KernelIdeal.Facts :=
  ⟨by decide, by decide, by decide, by decide, by decide, by decide, by decide, by decide, by decide, by decide, by decide, by decide, by decide⟩

theorem referenceFacts : Cert.Pre_live_pages_in_pool_ReferenceIdeal.Facts :=
  ⟨by decide, by decide, by decide, by decide, by decide, by decide, by decide, by decide, by decide, by decide, by decide, by decide, by decide⟩

open Cert.Pre_live_pages_in_pool_KernelIdeal

attribute [local instance] kernelFacts

/-- The bf16 pattern of lower infinity. -/
theorem bottom_bf16 : Ideal.ofBits .bf16 0xFF80#16 = (⊥ : EReal) := by simp [Ideal.ofBits, Ideal.ieee]

/-- The bf16 pattern of upper infinity. -/
theorem top_bf16 : Ideal.ofBits .bf16 0x7F80#16 = (⊤ : EReal) := by simp [Ideal.ofBits, Ideal.ieee]

variable {q : FVec Ideal S8x1x8x64 .bf16} {k v : FVec Ideal S64x16x8x64 .bf16} {bt : IVec S8x64 32} {len : IVec S8 32}

/-- A word that is at least zero and below 128, read signed, is below 128. -/
theorem word_lt (w : BitVec 32) (h0 : IntOp.cmpi .sge w 0#32 = 1#1) (h1 : IntOp.cmpi .slt w 128#32 = 1#1) : w.toNat < 128 := by
  simp only [IntOp.cmpi, StableHlo.Predicate.ofBool_eq_one_iff, BitVec.sle, BitVec.slt, decide_eq_true_eq] at h0 h1
  have e0 : (0#32 : BitVec 32).toInt = 0 := by decide
  have e1 : (128#32 : BitVec 32).toInt = 128 := by decide
  rw [e0] at h0
  rw [e1] at h1
  rw [BitVec.toInt_eq_toNat_cond] at h0 h1
  have := w.isLt
  split at h0 <;> omega

/-- A word that is at least one, read signed, is above zero. -/
theorem word_pos (w : BitVec 32) (h : IntOp.cmpi .sge w 1#32 = 1#1) : IntOp.cmpi .slt 0#32 w = 1#1 := by
  simp only [IntOp.cmpi, StableHlo.Predicate.ofBool_eq_one_iff, BitVec.sle, BitVec.slt, decide_eq_true_eq] at h ⊢
  have e0 : (0#32 : BitVec 32).toInt = 0 := by decide
  have e1 : (1#32 : BitVec 32).toInt = 1 := by decide
  rw [e1] at h
  rw [e0]
  omega

/-- A number strictly between the infinities is neither. -/
theorem between (x : EReal) (h : IntOp.andi (Ideal.cmp .ogt x ⊥) (Ideal.cmp .olt x ⊤) = 1#1) : x ≠ ⊥ ∧ x ≠ ⊤ := by
  obtain ⟨h0, h1⟩ := (andi_one _ _).1 h
  constructor
  · rintro rfl; exact absurd h0 (by simp [Ideal.cmp])
  · rintro rfl; exact absurd h1 (by simp [Ideal.cmp])

/-- A bit that is set, or set where another is not, is set where that other is. -/
theorem ori_noti (x y : BitVec 1) (h : IntOp.ori x (~~~y) = 1#1) (hy : y = 1#1) : x = 1#1 := by
  subst hy
  rcases BitVec.eq_zero_or_eq_one x with rfl | rfl
  · exact absurd h (by decide)
  · rfl

/-- The precondition, unpacked: live blocks name pages of the pool, every row has a live block, and the queries and the
    keys are real. -/
theorem unpack (hp : fn (F := Ideal) q k v bt len = fun _ => 1#1) :
    (∀ b i, live len b i → (bt (ix2 b i)).toNat < 128) ∧ (∀ b, live len b 0)
      ∧ (∀ j, q j ≠ ⊥ ∧ q j ≠ ⊤) ∧ (∀ j, k j ≠ ⊥ ∧ k j ≠ ⊤) := by
  have h := congrFun hp ix0
  simp only [fn, fn_part1] at h
  have h' : IntOp.andi (IntOp.andi (IntOp.andi _ _) _) _ = 1#1 := h
  rw [andi_one, andi_one, andi_one] at h'
  obtain ⟨⟨⟨hb, hl⟩, hq⟩, hk⟩ := h'
  refine ⟨fun b i hi => ?_, fun b => ?_, fun j => ?_, fun j => ?_⟩
  · have e := Host.reduce_andi_all _ _ _ _ _ hb (ix2 b i)
    pointwise at e
    have e' := (andi_one _ _).1 (ori_noti _ _ e hi)
    exact word_lt _ e'.1 e'.2
  · have e := Host.reduce_andi_all _ _ _ _ _ hl (ix1 b)
    pointwise at e
    exact word_pos _ e
  · have e := Host.reduce_andi_all _ _ _ _ _ hq j
    refine between _ ?_
    rw [← bottom_bf16, ← top_bf16]
    exact e
  · have e := Host.reduce_andi_all _ _ _ _ _ hk j
    refine between _ ?_
    rw [← bottom_bf16, ← top_bf16]
    exact e

end Cert.Precondition
-- ==== Proof.ReferenceValue.lean ====
/-
# 01_k — `ReferenceValue`: the reference's result at an index

The reference reads, for every block of a row, the page its table names, and averages the values of the live blocks
with the weights of their scores: a weighted sum of `Weights` over blocks, around a real centre.
-/
module

public import proofs.«01_k».proof.Proof.Gen.ReferenceIdeal
public import proofs.«01_k».proof.Proof.Gen.ReferenceIdeal.Run
public import proofs.«01_k».proof.Proof.HalfValue

@[expose] public section

set_option maxRecDepth 16384

noncomputable section

namespace Cert.ReferenceIdeal.Average

open Idealize Idealize.ShloMosaic Cert.ReferenceIdeal Cert.ReferenceIdeal.Gen Cert.Weights
open Cert.KernelIdeal.HalfValue (live lowest sum_keys)

/-- The page read at block `i` of row `b`: the table's word, its negative values counted from the end, brought into
    the pool. -/
def page (bt : IVec S8x64 32) (b : Fin 8) (i : Fin 64) : Fin 128 :=
  ⟨min (Scalar.select (IntOp.cmpi .slt (bt (ix2 b i)) 0#32) (IntOp.addi (bt (ix2 b i)) 128#32) (bt (ix2 b i))).toInt.toNat 127, by omega⟩

/-- A word already in the pool is its own page. -/
theorem page_of_lt (bt : IVec S8x64 32) (b : Fin 8) (i : Fin 64) (h : (bt (ix2 b i)).toNat < 128) :
    (page bt b i).val = (bt (ix2 b i)).toNat := by
  have h0 : IntOp.cmpi .slt (bt (ix2 b i)) 0#32 ≠ 1#1 := by
    rw [Ne, StableHlo.Predicate.slt_iff_toNat (by omega) (by decide)]; simp
  unfold page Scalar.select
  dsimp only
  rw [if_neg (show ¬ IntOp.cmpi .slt (bt (ix2 b i)) 0#32 = 1 from h0), StableHlo.Predicate.toInt_eq_toNat_of_lt (by omega)]
  omega

/-- Reading pages by a table: the operand's page at the table's word, signed and brought into the pool. -/
theorem gather_at {α : Type} (x : S128x16x8x64.Idx → α) (idx : IVec S8x64x1 32) (b : Fin 8) (i : Fin 64) (t : Fin 16) (h : Fin 8)
    (d : Fin 64) :
    Host.gather gather_S128x16x8x64_S8x64x1_S8x64x16x8x64_234_0_n_n_0_2_116864 x idx (ix5 b i t h d)
      = x (ix4 ⟨min (idx (ix3 b i 0)).toInt.toNat 127, by omega⟩ t h d) := by
  unfold Host.gather
  congr 1
  funext a
  apply Fin.ext
  match a with
  | ⟨0, _⟩ =>
    show GatherDims.start _ _ _ _ + GatherDims.batchCoord _ _ _ + GatherDims.offCoord _ _ _ = min (idx (ix3 b i 0)).toInt.toNat 127
    rw [GatherDims.batchCoord_eq_zero _ _ _ (by decide +revert), GatherDims.offCoord_eq_zero _ _ _ (by decide +revert), GatherDims.start, dif_pos (by decide +revert)]
    show min (idx _).toInt.toNat 127 = _
    congr 4
    funext e
    match e with
    | ⟨0, _⟩ => rfl
    | ⟨1, _⟩ => rfl
    | ⟨2, _⟩ => rfl
  | ⟨1, _⟩ =>
    show GatherDims.start _ _ _ _ + GatherDims.batchCoord _ _ _ + GatherDims.offCoord _ _ _ = t.val
    rw [GatherDims.batchCoord_eq_zero _ _ _ (by decide +revert), GatherDims.start, dif_neg (by decide +revert), GatherDims.offCoord, dif_pos (by decide +revert), Nat.zero_add]
    rfl
  | ⟨2, _⟩ =>
    show GatherDims.start _ _ _ _ + GatherDims.batchCoord _ _ _ + GatherDims.offCoord _ _ _ = h.val
    rw [GatherDims.batchCoord_eq_zero _ _ _ (by decide +revert), GatherDims.start, dif_neg (by decide +revert), GatherDims.offCoord, dif_pos (by decide +revert), Nat.zero_add]
    rfl
  | ⟨3, _⟩ =>
    show GatherDims.start _ _ _ _ + GatherDims.batchCoord _ _ _ + GatherDims.offCoord _ _ _ = d.val
    rw [GatherDims.batchCoord_eq_zero _ _ _ (by decide +revert), GatherDims.start, dif_neg (by decide +revert), GatherDims.offCoord, dif_pos (by decide +revert), Nat.zero_add]
    rfl

/-- The reference's page table, as it indexes the pool, names `page`. -/
theorem pool_at (x : FVec Ideal S128x16x8x64 .bf16) (bt : IVec S8x64 32) (b : Fin 8) (i : Fin 64) (t : Fin 16) (h : Fin 8) (d : Fin 64) :
    Host.gather gather_S128x16x8x64_S8x64x1_S8x64x16x8x64_234_0_n_n_0_2_116864 (extf .f32 x bitsLt_bf16_f32)
      (broadcastInDim S8x64x1 ![0, 1] bcast_S8x64_S8x64x1_0_1 (select (cmpi .slt bt (broadcastInDim S8x64 ![] bcast_S_S8x64 (constantI S_ 32 0#32)))
        (addi bt (broadcastInDim S8x64 ![] bcast_S_S8x64 (constantI S_ 32 128#32))) bt)) (ix5 b i t h d)
      = x (ix4 (page bt b i) t h d) := by
  rw [gather_at]
  pointwise
  rfl

/-- A softmax whose dead positions score lower infinity: the average of the live ones. -/
theorem softmax_average (l : Fin 64 → Prop) [DecidablePred l] (S : Fin 64 → Fin 16 → ℝ) (v : Fin 64 → Fin 16 → EReal) (f : Fin 1024 → EReal)
    (hf : ∀ k, f k = if l ⟨k.val / 16, by omega⟩ then (S ⟨k.val / 16, by omega⟩ ⟨k.val % 16, by omega⟩ : EReal) else ⊥) {i₀ : Fin 64} (h₀ : l i₀) :
    ∃ M : ℝ, ∑ k : Fin 1024, v ⟨k.val / 16, by omega⟩ ⟨k.val % 16, by omega⟩
        * Ideal.div (Ideal.exp (f k - Finset.univ.fold max ⊥ f)) (∑ x, Ideal.exp (f x - Finset.univ.fold max ⊥ f))
      = Ideal.div (wsum (fun i => if l i then 1 else 0) S v M) (wtot (fun i => if l i then 1 else 0) S M : EReal) := by
  obtain ⟨M, hM⟩ : ∃ M : ℝ, Finset.univ.fold max ⊥ f = (M : EReal) := by
    refine fold_max_real _ f (fun k _ => ?_) (Finset.mem_univ (⟨i₀.val * 16, by omega⟩ : Fin 1024)) ?_
    · rw [hf]; split
      · exact EReal.coe_ne_top _
      · exact bot_ne_top
    · have e : (⟨i₀.val * 16 / 16, by omega⟩ : Fin 64) = i₀ := Fin.ext (by dsimp only; omega)
      rw [hf]
      simp only [e, if_pos h₀]
      exact EReal.coe_ne_bot _
  refine ⟨M, ?_⟩
  have he : ∀ k, Ideal.exp (f k - (M : EReal))
      = (((if l ⟨k.val / 16, by omega⟩ then 1 else 0) * Real.exp (S ⟨k.val / 16, by omega⟩ ⟨k.val % 16, by omega⟩ - M) : ℝ) : EReal) := fun k => by
    rw [hf]
    split
    · rw [one_mul, ← EReal.coe_sub]; rfl
    · rw [zero_mul, EReal.bot_sub]; rfl
  have hn : ∀ i, (0 : ℝ) ≤ if l i then 1 else 0 := fun i => by split <;> simp
  simp only [hM, he]
  rw [← coe_sum, sum_keys fun i t => (if l i then 1 else 0) * Real.exp (S i t - M),
    show (∑ p, ∑ t, (if l p then 1 else 0) * Real.exp (S p t - M)) = wtot (fun i => if l i then 1 else 0) S M from rfl]
  rw [sum_normalized (fun k : Fin 1024 => (if l ⟨k.val / 16, by omega⟩ then 1 else 0) * Real.exp (S ⟨k.val / 16, by omega⟩ ⟨k.val % 16, by omega⟩ - M))
    (fun k => mul_nonneg (hn _) (Real.exp_pos _).le) (fun k => v ⟨k.val / 16, by omega⟩ ⟨k.val % 16, by omega⟩)
    (z := wtot (fun i => if l i then 1 else 0) S M) (wtot_pos _ hn (p₀ := i₀) (by rw [if_pos h₀]; exact one_pos) S M)]
  rw [sum_keys fun i t => (((if l i then 1 else 0) * Real.exp (S i t - M) : ℝ) : EReal) * v i t]
  rfl

/-! ## The reference's term, by its parts -/

variable (q : FVec Ideal S8x1x8x64 .bf16) (k v : FVec Ideal S128x16x8x64 .bf16) (bt : IVec S8x64 32) (len : IVec S8 32)

/-- The pages a table names, read from a pool. -/
def pool (x : FVec Ideal S128x16x8x64 .bf16) : FVec Ideal S8x64x16x8x64 .f32 :=
  Host.gather gather_S128x16x8x64_S8x64x1_S8x64x16x8x64_234_0_n_n_0_2_116864 (extf .f32 x bitsLt_bf16_f32)
    (broadcastInDim S8x64x1 ![0, 1] bcast_S8x64_S8x64x1_0_1 (select (cmpi .slt bt (broadcastInDim S8x64 ![] bcast_S_S8x64 (constantI S_ 32 0#32)))
      (addi bt (broadcastInDim S8x64 ![] bcast_S_S8x64 (constantI S_ 32 128#32))) bt))

theorem pool_apply (x : FVec Ideal S128x16x8x64 .bf16) (b : Fin 8) (i : Fin 64) (t : Fin 16) (h : Fin 8) (d : Fin 64) :
    pool bt x (ix5 b i t h d) = x (ix4 (page bt b i) t h d) := pool_at x bt b i t h d

/-- The scores, lower infinity where the block is not live. -/
def scores : FVec Ideal S8x8x1x1024 .f32 :=
  select (broadcastInDim S8x8x1x1024 ![0, 1, 2, 3] bcast_S8x1x1x1024_S8x8x1x1024_0_1_2_3 (broadcastInDim S8x1x1x1024 ![0, 3] bcast_S8x1024_S8x1x1x1024_0_3
      (shapeCast _ (broadcastInDim S8x64x16 ![0, 1] bcast_S8x64_S8x64x16_0_1 (cmpi .slt
        (broadcastInDim S8x64 ![0, 1] bcast_S1x64_S8x64_0_1 (broadcastInDim S1x64 ![1] bcast_S64_S1x64_1 (iotaInDim S64 32 0)))
        (broadcastInDim S8x64 ![0, 1] bcast_S8x1_S8x64_0_1 (broadcastInDim S8x1 ![0] bcast_S8_S8x1_0 len)))) shapeCasts_S8x64x16_S8x1024)))
    (mulf (Host.dotGeneral dot_S8x1x8x64_S8x1024x8x64_S8x8x1x1024_3_3_1_1_02_02 none (extf .f32 q bitsLt_bf16_f32)
        (shapeCast _ (pool bt k) shapeCasts_S8x64x16x8x64_S8x1024x8x64))
      (broadcastInDim S8x8x1x1024 ![] bcast_S_S8x8x1x1024 (constant S_ .f32 0x3E000000#32)))
    (broadcastInDim S8x8x1x1024 ![] bcast_S_S8x8x1x1024 (id (constant S_ .f32 0xFF800000#32)))

/-- The exponentials of the scores less their maximum. -/
def exps (s : FVec Ideal S8x8x1x1024 .f32) : FVec Ideal S8x8x1x1024 .f32 :=
  Host.exp (subf s (broadcastInDim S8x8x1x1024 ![0, 1, 2, 3] bcast_S8x8x1x1_S8x8x1x1024_0_1_2_3
    (broadcastInDim S8x8x1x1 ![0, 1, 2] bcast_S8x8x1_S8x8x1x1_0_1_2
      (Host.reduce FloatOps.maximumf s (constant S_ .f32 0xFF800000#32) reducesTo_S8x8x1x1024_S8x8x1_d3 h_S_))))

/-- The values averaged with the normalized exponentials. -/
def average (s : FVec Ideal S8x8x1x1024 .f32) : FVec Ideal S8x1x8x64 .f32 :=
  transpose S8x1x8x64 [0, 3, 1, 2] (Host.dotGeneral dot_S8x1024x8x64_S8x8x1x1024_S8x8x64x1_1_3_3_2_02_01 none
    (shapeCast _ (pool bt v) shapeCasts_S8x64x16x8x64_S8x1024x8x64)
    (Host.divf (exps s) (broadcastInDim S8x8x1x1024 ![0, 1, 2, 3] bcast_S8x8x1x1_S8x8x1x1024_0_1_2_3
      (broadcastInDim S8x8x1x1 ![0, 1, 2] bcast_S8x8x1_S8x8x1x1_0_1_2
        (Host.reduceAdd (exps s) (constant S_ .f32 0x00000000#32) reducesTo_S8x8x1x1024_S8x8x1_d3 h_S_)))))
    transposes_S8x8x64x1_S8x1x8x64_0_3_1_2

/-- The run's result is these parts over its arguments. -/
theorem result_eq (m : (ℓ : Loc nD τ sig) → Buf (Elt Ideal) ℓ) (c : Dev nD) :
    Value.res_main_v42 (F := Ideal) m c
      = average (m ((c.tc : Thread nD τ).loc main_arg2)) (m ((c.tc : Thread nD τ).loc main_arg3))
          (scores (m ((c.tc : Thread nD τ).loc main_arg0)) (m ((c.tc : Thread nD τ).loc main_arg1)) (m ((c.tc : Thread nD τ).loc main_arg3))
            (m ((c.tc : Thread nD τ).loc main_arg4))) := rfl

/-- A score at an index. -/
theorem scores_at (b h : Fin 8) (S : Fin 128 → Fin 16 → ℝ)
    (hS : ∀ P t, (∑ x, q (ix4 b 0 h x) * k (ix4 P t h x)) * Ideal.ofBits .f32 0x3E000000#32 = (S P t : EReal)) (j : Fin 1024) :
    scores q k bt len (ix4 b h 0 j)
      = if live len b ⟨j.val / 16, by omega⟩ then (S (page bt b ⟨j.val / 16, by omega⟩) ⟨j.val % 16, by omega⟩ : EReal) else ⊥ := by
  pointwise [scores]
  simp only [pool_apply]
  show Scalar.select _ _ (Ideal.ofBits .f32 0xFF800000#32) = _
  rw [lowest]
  exact if_congr Iff.rfl (hS _ _) rfl

/-- The average at an index, in the scores. -/
theorem average_at (s : FVec Ideal S8x8x1x1024 .f32) (b h : Fin 8) (d : Fin 64) :
    average v bt s (ix4 b 0 h d) = ∑ j : Fin 1024, v (ix4 (page bt b ⟨j.val / 16, by omega⟩) ⟨j.val % 16, by omega⟩ h d)
      * Ideal.div (Ideal.exp (s (ix4 b h 0 j) - Finset.univ.fold max ⊥ fun x => s (ix4 b h 0 x)))
        (∑ y, Ideal.exp (s (ix4 b h 0 y) - Finset.univ.fold max ⊥ fun x => s (ix4 b h 0 x))) := by
  pointwise [average, exps]
  simp only [pool_apply, lowest]

/-- The reference's result at an index, from scores that are real and a row with a live block. -/
theorem result_at (b h : Fin 8) (d : Fin 64) (S : Fin 128 → Fin 16 → ℝ)
    (hS : ∀ P t, (∑ x, q (ix4 b 0 h x) * k (ix4 P t h x)) * Ideal.ofBits .f32 0x3E000000#32 = (S P t : EReal))
    {i₀ : Fin 64} (h₀ : live len b i₀) :
    ∃ M : ℝ, average v bt (scores q k bt len) (ix4 b 0 h d)
      = Ideal.div (wsum (fun i => if live len b i then 1 else 0) (fun i => S (page bt b i)) (fun i t => v (ix4 (page bt b i) t h d)) M)
          (wtot (fun i => if live len b i then 1 else 0) (fun i => S (page bt b i)) M : EReal) := by
  obtain ⟨M, hM⟩ := softmax_average (fun i => live len b i) (fun i => S (page bt b i)) (fun i t => v (ix4 (page bt b i) t h d))
    (fun j => scores q k bt len (ix4 b h 0 j)) (fun j => scores_at q k bt len b h S hS j) h₀
  exact ⟨M, (average_at v bt _ b h d).trans hM⟩

end Cert.ReferenceIdeal.Average
-- ==== Proof.Value.lean ====
/-
# 01_k — `Value`: both programs compute one average

The kernel's result on any device, and the reference's, at an index: the average of `Weights` over the pool's 128 pages,
each counted once for every live block that names it.
-/
module

public import proofs.«01_k».proof.Proof.Frames
public import proofs.«01_k».proof.Proof.Precondition
public import proofs.«01_k».proof.Proof.ReferenceValue
public import Idealize.ShloMosaic.Lib.Layout

@[expose] public section

set_option maxRecDepth 16384

noncomputable section

namespace Cert.KernelIdeal.Value

open Idealize Idealize.ShloMosaic Idealize.ShloMosaic.TcCoe Cert.KernelIdeal Cert.KernelIdeal.Gen Cert.KernelIdeal.Exchange
open Cert.KernelIdeal.HalfValue Cert.Weights
open Cert.ReferenceIdeal.Average (page page_of_lt)

/-! ## What the kernel stages and flushes -/

section Blocks

variable {F : FTy → Type} [FloatOps F]
variable (m : (ℓ : Loc nD τ sig) → Buf (Elt F) ℓ) (c : Dev nD)

/-- Each operand is staged whole. -/
theorem inQ_eq : inQ m c = m ((c : Thread nD τ).loc main_arg0) :=
  Memref.read_access_unit_zero (Elt F) main_arg0 (funext fun a => by fin_cases a <;> rfl) (fun a => by fin_cases a <;> decide) _
theorem inK_eq : inK m c = m ((c : Thread nD τ).loc main_arg1) :=
  Memref.read_access_unit_zero (Elt F) main_arg1 (funext fun a => by fin_cases a <;> rfl) (fun a => by fin_cases a <;> decide) _
theorem inV_eq : inV m c = m ((c : Thread nD τ).loc main_arg2) :=
  Memref.read_access_unit_zero (Elt F) main_arg2 (funext fun a => by fin_cases a <;> rfl) (fun a => by fin_cases a <;> decide) _
theorem inB_eq : inB m c = m ((c : Thread nD τ).loc main_arg3) :=
  Memref.read_access_unit_zero (Elt F) main_arg3 (funext fun a => by fin_cases a <;> rfl) (fun a => by fin_cases a <;> decide) _
theorem inL_eq : inL m c = m ((c : Thread nD τ).loc main_arg4) :=
  Memref.read_access_unit_zero (Elt F) main_arg4 (funext fun a => by fin_cases a <;> rfl) (fun a => by fin_cases a <;> decide) _

/-- The result's one block is its whole buffer. -/
theorem read_result (f : Buf (Elt F) ((c : Thread nD τ).loc main_v1)) : (win0_5.blk t0_0).view.read (Elt F) f = f :=
  Memref.read_access_unit_zero (Elt F) main_v1 (funext fun a => by fin_cases a <;> rfl) (fun a => by fin_cases a <;> decide) f

/-- What the result's buffer ends holding. -/
theorem final_result : finalA m c (5 : Fin 6) = result m c := by
  have hw : ((cfg0.win (5 : Fin 6)).blk t0_0).view.read (Elt F) ((dats m 0 c).arrAt (5 : Fin 6) cfg0.N) = (dats m 0 c).flushed (5 : Fin 6) t0_0 := by
    rw [show cfg0.N = t0_0.val + 1 from rfl, (dats m 0 c).arrAt_succ (5 : Fin 6) t0_0, flush0_5, if_pos rfl]
    exact View.read_write_univ _ _
  exact (read_result c _).symm.trans hw

end Blocks

/-! ## The two halves of the pool -/

theorem off_le (c : Dev nD) : off c ≤ 64 := by unfold off; omega

/-- Page `p` of device `c`'s half, as a page of the pool. -/
def place (c : Dev nD) (p : Fin 64) : Fin 128 := ⟨off c + p.val, by have := off_le c; omega⟩

/-- A device and its peer hold the two halves, in one order or the other. -/
theorem off_peer (c : Dev nD) : (off c = 0 ∧ off (peer c) = 64) ∨ (off c = 64 ∧ off (peer c) = 0) := by
  revert c; decide

/-- A device's weighted sum and its peer's make the whole pool's. -/
theorem wsum_halves (c : Dev nD) (n : Fin 128 → ℝ) (S : Fin 128 → Fin 16 → ℝ) (v : Fin 128 → Fin 16 → EReal) (M : ℝ) :
    wsum (fun p => n (place c p)) (fun p => S (place c p)) (fun p => v (place c p)) M
      + wsum (fun p => n (place (peer c) p)) (fun p => S (place (peer c) p)) (fun p => v (place (peer c) p)) M = wsum n S v M := by
  have hsum : wsum n S v M = wsum (fun p : Fin 64 => n ⟨p.val, by omega⟩) (fun p => S ⟨p.val, by omega⟩) (fun p => v ⟨p.val, by omega⟩) M
      + wsum (fun p : Fin 64 => n ⟨64 + p.val, by omega⟩) (fun p => S ⟨64 + p.val, by omega⟩) (fun p => v ⟨64 + p.val, by omega⟩) M := by
    unfold wsum
    exact Fin.sum_univ_two_halves 64 64 rfl fun P => ∑ t, ((n P * Real.exp (S P t - M) : ℝ) : EReal) * v P t
  have hlow : ∀ c : Dev nD, off c = 0 → place c = fun p => ⟨p.val, by omega⟩ := fun c h =>
    funext fun p => Fin.ext (by unfold place; dsimp only; omega)
  have hhigh : ∀ c : Dev nD, off c = 64 → place c = fun p => ⟨64 + p.val, by omega⟩ := fun c h =>
    funext fun p => Fin.ext (by unfold place; dsimp only; omega)
  rcases off_peer c with ⟨h, h'⟩ | ⟨h, h'⟩
  · rw [hlow c h, hhigh _ h', hsum]
  · rw [hhigh c h, hlow _ h', hsum, add_comm]

/-- The same for the weights' own sum. -/
theorem wtot_halves (c : Dev nD) (n : Fin 128 → ℝ) (S : Fin 128 → Fin 16 → ℝ) (M : ℝ) :
    wtot (fun p => n (place c p)) (fun p => S (place c p)) M + wtot (fun p => n (place (peer c) p)) (fun p => S (place (peer c) p)) M
      = wtot n S M := by
  have h := wsum_halves c n S (fun _ _ => 1) M
  rw [wsum_one, wsum_one, wsum_one, ← EReal.coe_add] at h
  exact_mod_cast h

/-! ## Counts over the pool -/

/-- How many live blocks of row `b` read page `P`. -/
def uses (bt : IVec S8x64 32) (len : IVec S8 32) (b : Fin 8) (P : Fin 128) : ℝ :=
  ∑ i : Fin 64, if page bt b i = P then (if live len b i then 1 else 0) else 0

/-- A device's counts are the pool's, when live blocks name pages of the pool. -/
theorem cnt_eq_uses (bt : IVec S8x64 32) (len : IVec S8 32) (b : Fin 8) (hb : ∀ i, live len b i → (bt (ix2 b i)).toNat < 128)
    (c : Dev nD) (p : Fin 64) : cnt c bt len b p = uses bt len b (place c p) := by
  unfold cnt uses
  refine Finset.sum_congr rfl fun i _ => ?_
  by_cases hl : live len b i
  · have hP := page_of_lt bt b i (hb i hl)
    have ho := off_le c
    have e : bt (ix2 b i) = BitVec.ofNat 32 (off c + p.val) ↔ page bt b i = place c p := by
      rw [Fin.ext_iff, hP]
      unfold place
      dsimp only
      constructor
      · intro h; rw [h, BitVec.toNat_ofNat]; omega
      · intro h
        refine BitVec.eq_of_toNat_eq ?_
        rw [h, BitVec.toNat_ofNat]
        omega
    simp only [hl, and_true, e, if_true]
  · simp only [hl, and_false, if_false, ite_self]

/-! ## The kernel's result at an index -/

section Result

variable (m : (ℓ : Loc nD τ sig) → Buf (Elt Ideal) ℓ)
variable (q : FVec Ideal S8x1x8x64 .bf16) (k v : FVec Ideal ⟨4, ![128, 16, 8, 64]⟩ .bf16) (bt : IVec S8x64 32) (len : IVec S8 32)

/-- Every device holds the queries, the table and the lengths, and its half of the pages. -/
structure Holds : Prop where
  q : ∀ c : Dev nD, inQ m c = q
  k : ∀ (c : Dev nD) p t h x, inK m c (ix4 p t h x) = k (ix4 (place c p) t h x)
  v : ∀ (c : Dev nD) p t h x, inV m c (ix4 p t h x) = v (ix4 (place c p) t h x)
  bt : ∀ c : Dev nD, inB m c = bt
  len : ∀ c : Dev nD, inL m c = len

variable {m q k v bt len}

/-- What a device has computed before the merge, around its own maximum. -/
theorem half_at (H : Holds m q k v bt len) (b h : Fin 8) (d : Fin 64) (hb : ∀ i, live len b i → (bt (ix2 b i)).toNat < 128)
    (S : Fin 128 → Fin 16 → ℝ) (hS : ∀ P t, (∑ x, q (ix4 b 0 h x) * k (ix4 P t h x)) * Ideal.ofBits .f32 0x3E000000#32 = (S P t : EReal))
    (c : Dev nD) : ∃ μ : ℝ, maxOwn m c (ix2 b h) = (μ : EReal)
      ∧ sumOwn m c (ix2 b h) = (wtot (fun p => uses bt len b (place c p)) (fun p => S (place c p)) μ : EReal)
      ∧ outOwn m c (ix3 b h d) = wsum (fun p => uses bt len b (place c p)) (fun p => S (place c p)) (fun p t => v (ix4 (place c p) t h d)) μ := by
  have hn : ∀ p, counts m c (ix3 b p 0) = ((uses bt len b (place c p) : ℝ) : EReal) := fun p => by
    unfold counts
    rw [H.bt, H.len, counts_at, cnt_eq_uses bt len b hb]
  have hν : ∀ p, 0 ≤ uses bt len b (place c p) := fun p => by rw [← cnt_eq_uses bt len b hb]; exact cnt_nonneg ..
  have hs : ∀ (K : FVec Ideal S64x16x8x64 .bf16) (Q : FVec Ideal S8x1x8x64 .bf16), (∀ p t h x, K (ix4 p t h x) = k (ix4 (place c p) t h x)) → Q = q →
      ∀ p t, (∑ x, K (ix4 p t h x) * Q (ix4 b 0 h x)) * Ideal.ofBits .f32 0x3E000000#32 = (S (place c p) t : EReal) := fun K Q hK hQ p t => by
    rw [← hS, hQ]
    refine congrArg (· * Ideal.ofBits .f32 0x3E000000#32) (Finset.sum_congr rfl fun x _ => ?_)
    rw [hK]
    exact mul_comm (k _ : EReal) (q _)
  have hs := hs (inK m c) (inQ m c) (H.k c) (H.q c)
  obtain ⟨μ, hμ⟩ := max_real (counts m c) (inK m c) (inQ m c) b h (fun p => S (place c p)) hs
  refine ⟨μ, hμ, sum_at _ _ _ b h _ _ hn hν hs μ hμ, ?_⟩
  refine (out_at _ _ (inV m c) _ b h _ _ hn hν hs μ hμ d).trans ?_
  simp only [H.v]

/-- The kernel's result: the average over the whole pool, around some centre. -/
theorem result_at (H : Holds m q k v bt len) (b h : Fin 8) (d : Fin 64) (hb : ∀ i, live len b i → (bt (ix2 b i)).toNat < 128)
    (S : Fin 128 → Fin 16 → ℝ) (hS : ∀ P t, (∑ x, q (ix4 b 0 h x) * k (ix4 P t h x)) * Ideal.ofBits .f32 0x3E000000#32 = (S P t : EReal))
    (c : Dev nD) : ∃ M : ℝ, result m c (ix4 b 0 h d)
      = Ideal.div (wsum (uses bt len b) S (fun P t => v (ix4 P t h d)) M) (wtot (uses bt len b) S M : EReal) := by
  obtain ⟨μ, hμ, hl, ho⟩ := half_at H b h d hb S hS c
  obtain ⟨μ', hμ', hl', ho'⟩ := half_at H b h d hb S hS (peer c)
  refine ⟨max μ μ', ?_⟩
  have e9 : maxSlot m (peer c) (ix4 0 0 b h) = (μ' : EReal) :=
    (slots_at _ _ _ (sumOwn m (peer c)) (k0_pay4 (inV m (peer c))) (wOwn m (peer c)) b h d).1.trans hμ'
  have e10 : sumSlot m (peer c) (ix4 0 0 b h) = _ :=
    (slots_at (counts m (peer c)) (inK m (peer c)) (inQ m (peer c)) (sumOwn m (peer c)) (k0_pay4 (inV m (peer c))) (wOwn m (peer c)) b h d).2.1.trans hl'
  have e12 : outSlot m (peer c) (ix4 0 b h d) = _ :=
    (slots_at (counts m (peer c)) (inK m (peer c)) (inQ m (peer c)) (sumOwn m (peer c)) (k0_pay4 (inV m (peer c))) (wOwn m (peer c)) b h d).2.2.trans ho'
  refine (merged_at (outSlot m (peer c)) (maxOwn m c) (sumOwn m c) (outOwn m c) (maxSlot m (peer c)) (sumSlot m (peer c)) b h d).trans ?_
  rw [hμ, hl, ho, e9, e10, e12, merge, wsum_halves c _ _ fun P t => v (ix4 P t h d), wtot_halves]

end Result

end Cert.KernelIdeal.Value
-- ==== Proof.Algebraic.lean ====
/-
# 01_k — `Algebraic`: the kernel's result is the reference's
-/
module

public import proofs.«01_k».proof.Proof.Value

@[expose] public section

set_option maxRecDepth 16384

noncomputable section

namespace Cert.KernelIdeal.Value

open Idealize Idealize.ShloMosaic Idealize.ShloMosaic.TcCoe Cert.KernelIdeal Cert.KernelIdeal.Gen Cert.KernelIdeal.Exchange
open Cert.KernelIdeal.HalfValue Cert.Weights
open Cert.ReferenceIdeal.Average (page average scores)

/-! ## How the pool is cut -/

/-- Device `c`'s block of the pool is the pages of its half. -/
theorem block_at {α : Type} (w : Shape.Idx ⟨4, ![128, 16, 8, 64]⟩ → α) (c : Dev nD) (p : Fin 64) (t : Fin 16) (h : Fin 8) (x : Fin 64) :
    (Layout.blockN ⟨4, ![64, 16, 8, 64]⟩ ⟨4, ![128, 16, 8, 64]⟩ (Layout.meshBlock [2, 2, 4] ![[1], [], [], []] c) w) (ix4 p t h x)
      = w (ix4 (place c p) t h x) := by
  rw [Layout.blockN_apply]
  refine congrArg w (funext fun a => Fin.ext ?_)
  rw [Layout.TilesN.idx_val]
  have hy : ∀ c : Dev nD, Layout.meshLin [2, 2, 4] c.val [1] * 64 = off c := by decide
  fin_cases a
  · exact congrArg (· + p.val) (hy c)
  all_goals exact (congrArg (· + _) (Nat.zero_mul _)).trans (Nat.zero_add _)

/-- Every page of the pool is in some device's half. -/
theorem exists_place (P : Fin 128) : ∃ (c : Dev nD) (p : Fin 64), P = place c p := by
  by_cases h : P.val < 64
  · exact ⟨0, ⟨P.val, h⟩, Fin.ext (by unfold place off; show _ = 64 * (0 / 4 % 2) + P.val; omega)⟩
  · exact ⟨4, ⟨P.val - 64, by omega⟩, Fin.ext (by unfold place off; show _ = 64 * (4 / 4 % 2) + (P.val - 64); omega)⟩

/-! ## Scores are real -/

/-- A scaled inner product of reals is a real. -/
theorem score_real {n : ℕ} (x y : Fin n → EReal) (hx : ∀ i, x i ≠ ⊥ ∧ x i ≠ ⊤) (hy : ∀ i, y i ≠ ⊥ ∧ y i ≠ ⊤) :
    ∃ s : ℝ, (∑ i, x i * y i) * Ideal.ofBits .f32 0x3E000000#32 = (s : EReal) := by
  obtain ⟨e, he⟩ := eighth_real
  have hx' : ∀ i, x i = ((x i).toReal : EReal) := fun i => (EReal.coe_toReal (hx i).2 (hx i).1).symm
  have hy' : ∀ i, y i = ((y i).toReal : EReal) := fun i => (EReal.coe_toReal (hy i).2 (hy i).1).symm
  refine ⟨(∑ i, (x i).toReal * (y i).toReal) * e, ?_⟩
  rw [he, EReal.coe_mul, coe_sum]
  refine congrArg (· * (e : EReal)) (Finset.sum_congr rfl fun i _ => ?_)
  rw [EReal.coe_mul, ← hx', ← hy']

/-! ## The two results -/

section Results

variable {m : (ℓ : Loc nD τ sig) → Buf (Elt Ideal) ℓ}
variable {q : FVec Ideal S8x1x8x64 .bf16} {k v : FVec Ideal ⟨4, ![128, 16, 8, 64]⟩ .bf16} {bt : IVec S8x64 32} {len : IVec S8 32}

/-- Every device's result is the reference's average over the whole pool. -/
theorem result_eq_average (H : Holds m q k v bt len) (hb : ∀ b i, live len b i → (bt (ix2 b i)).toNat < 128) (h₀ : ∀ b, live len b 0)
    (hq : ∀ j, q j ≠ ⊥ ∧ q j ≠ ⊤) (hk : ∀ j, k j ≠ ⊥ ∧ k j ≠ ⊤) (c : Dev nD) :
    result m c = average v bt (scores q k bt len) := by
  have hpoint : ∀ (b h : Fin 8) (d : Fin 64), result m c (ix4 b 0 h d) = average v bt (scores q k bt len) (ix4 b 0 h d) := fun b h d => by
    choose S hS using fun P t => score_real (fun x => q (ix4 b 0 h x)) (fun x => k (ix4 P t h x)) (fun x => hq _) (fun x => hk _)
    obtain ⟨M, hM⟩ := result_at H b h d (hb b) S hS c
    obtain ⟨M', hM'⟩ := Cert.ReferenceIdeal.Average.result_at q k v bt len b h d S hS (h₀ b)
    rw [hM, hM']
    have hl : ∀ i, (0 : ℝ) ≤ if live len b i then 1 else 0 := fun i => by split <;> norm_num
    have e := wsum_regroup (fun i => if live len b i then (1 : ℝ) else 0) hl (page bt b) S (fun P t => v (ix4 P t h d)) M
    have e' := wtot_regroup (fun i => if live len b i then (1 : ℝ) else 0) hl (page bt b) S M
    unfold uses
    rw [e, e']
    refine average_recenter _ _ _ _ _ (wtot_pos _ hl (p₀ := 0) ?_ _ _)
    rw [if_pos (h₀ b)]
    exact one_pos
  funext j
  have hj : j = ix4 (j 0) 0 (j 2) (j 3) := funext fun a => by
    fin_cases a
    · rfl
    · exact Fin.ext (by have : (j 1).val < 1 := (j 1).isLt; show (j 1).val = 0; omega)
    · rfl
    · rfl
  rw [hj]
  exact hpoint _ _ _

end Results

end Cert.KernelIdeal.Value

namespace Cert.Proof

open Idealize Idealize.ShloMosaic Idealize.ShloMosaic.TcCoe Idealize.SL.Sem
open Cert.KernelIdeal.Exchange Cert.KernelIdeal.Value

attribute [local instance] Cert.Precondition.kernelFacts

/-- Over exact arithmetic, where live blocks name pages of the pool and the queries and keys are finite, every device of
the kernel ends holding the reference's result. -/
theorem algebraic : Cert.algebraic_KernelIdeal_ReferenceIdeal_pre_live_pages_in_pool_KernelIdeal := by
  intro m g m' g' hpre hargs
  refine ⟨Cert.ReferenceIdeal.Value.res_main_v42 (F := Ideal) m' 0, ?_, ?_⟩
  · refine (θ_run Cert.KernelIdeal.defs _ _).mono (fun r hr c => ⟨?_, argsKept_of_QC m hr.1 c⟩) (run_main m g)
    refine ((hr.1 c (5 : Fin 6)).trans (final_result m c)).trans ?_
    have H : Holds m (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) :=
      { q := fun c => (inQ_eq m c).trans (hargs c).1
        k := fun c p t h x => (congrFun ((inK_eq m c).trans (hargs c).2.1) (ix4 p t h x)).trans (block_at _ c p t h x)
        v := fun c p t h x => (congrFun ((inV_eq m c).trans (hargs c).2.2.1) (ix4 p t h x)).trans (block_at _ c p t h x)
        bt := fun c => (inB_eq m c).trans (hargs c).2.2.2.1
        len := fun c => (inL_eq m c).trans (hargs c).2.2.2.2 }
    have hU := fun c => Cert.Precondition.unpack (hpre c)
    obtain ⟨hb, h₀, hq, -⟩ := hU 0
    rw [(hargs 0).2.2.2.1, (hargs 0).2.2.2.2] at hb
    rw [(hargs 0).2.2.2.2] at h₀
    rw [(hargs 0).1] at hq
    refine (result_eq_average H hb h₀ hq (fun j => ?_) c).trans (Cert.ReferenceIdeal.Average.result_eq m' 0).symm
    obtain ⟨c', p, hp⟩ := exists_place (j 0)
    have hj : j = ix4 (place c' p) (j 1) (j 2) (j 3) := funext fun a => by
      fin_cases a
      · exact hp
      all_goals rfl
    rw [hj]
    have hfin : ∀ {x y : EReal}, x = y → (x ≠ ⊥ ∧ x ≠ ⊤) → (y ≠ ⊥ ∧ y ≠ ⊤) := fun e h => e ▸ h
    exact hfin ((congrFun (hargs c').2.1 (ix4 p (j 1) (j 2) (j 3))).trans (block_at _ c' p (j 1) (j 2) (j 3))) ((hU c').2.2.2 _)
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the three programs run and keep their arguments, the idealized kernel is the kernel's own text, and over
exact arithmetic every device of it ends holding the reference's result. -/
theorem claim : Cert.Claim := ⟨Cert.Kernel.Gen.facts, Cert.KernelIdeal.Gen.facts, Cert.ReferenceIdeal.Gen.facts,
  Cert.Precondition.kernelFacts, Cert.Precondition.referenceFacts,
  quiet_kernel, quiet_kernelIdeal, fun m g _ => quiet_kernelIdeal m g trivial,
  quiet_referenceIdeal, fun m g _ => quiet_referenceIdeal m g trivial, trivial, algebraic⟩

end Cert.Proof

end
